-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2 = (fun _ => 1#1)

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1)
      ∧ r.2.mem ((c.tc : Thread Cert.Back.nD Cert.Back.τ).loc Cert.Back.main_arg2) = m ((c.tc : Thread Cert.Back.nD Cert.Back.τ).loc Cert.Back.main_arg2)
      ∧ r.2.mem ((c.tc : Thread Cert.Back.nD Cert.Back.τ).loc Cert.Back.main_arg3) = m ((c.tc : Thread Cert.Back.nD Cert.Back.τ).loc Cert.Back.main_arg3)
      ∧ r.2.mem ((c.tc : Thread Cert.Back.nD Cert.Back.τ).loc Cert.Back.main_arg4) = m ((c.tc : Thread Cert.Back.nD Cert.Back.τ).loc Cert.Back.main_arg4)
      ∧ r.2.mem ((c.tc : Thread Cert.Back.nD Cert.Back.τ).loc Cert.Back.main_arg5) = m ((c.tc : Thread Cert.Back.nD Cert.Back.τ).loc Cert.Back.main_arg5)
      ∧ r.2.mem ((c.tc : Thread Cert.Back.nD Cert.Back.τ).loc Cert.Back.main_arg6) = m ((c.tc : Thread Cert.Back.nD Cert.Back.τ).loc Cert.Back.main_arg6)
      ∧ r.2.mem ((c.tc : Thread Cert.Back.nD Cert.Back.τ).loc Cert.Back.main_arg7) = m ((c.tc : Thread Cert.Back.nD Cert.Back.τ).loc Cert.Back.main_arg7)
      ∧ r.2.mem ((c.tc : Thread Cert.Back.nD Cert.Back.τ).loc Cert.Back.main_arg8) = m ((c.tc : Thread Cert.Back.nD Cert.Back.τ).loc Cert.Back.main_arg8)
      ∧ r.2.mem ((c.tc : Thread Cert.Back.nD Cert.Back.τ).loc Cert.Back.main_arg9) = m ((c.tc : Thread Cert.Back.nD Cert.Back.τ).loc Cert.Back.main_arg9)
      ∧ r.2.mem ((c.tc : Thread Cert.Back.nD Cert.Back.τ).loc Cert.Back.main_arg10) = m ((c.tc : Thread Cert.Back.nD Cert.Back.τ).loc Cert.Back.main_arg10)
      ∧ r.2.mem ((c.tc : Thread Cert.Back.nD Cert.Back.τ).loc Cert.Back.main_arg11) = m ((c.tc : Thread Cert.Back.nD Cert.Back.τ).loc Cert.Back.main_arg11))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
      ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
      ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
      ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
      ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
      ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
      ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
      ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
      ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
      ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
      ∧ r.2.mem ((c.tc : Thread Cert.BackIdeal.nD Cert.BackIdeal.τ).loc Cert.BackIdeal.main_arg11) = m ((c.tc : Thread Cert.BackIdeal.nD Cert.BackIdeal.τ).loc Cert.BackIdeal.main_arg11))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7)
      ∧ r.2.mem ((c.tc : Thread Cert.BackReferenceIdeal.nD Cert.BackReferenceIdeal.τ).loc Cert.BackReferenceIdeal.main_arg8) = m ((c.tc : Thread Cert.BackReferenceIdeal.nD Cert.BackReferenceIdeal.τ).loc Cert.BackReferenceIdeal.main_arg8)
      ∧ r.2.mem ((c.tc : Thread Cert.BackReferenceIdeal.nD Cert.BackReferenceIdeal.τ).loc Cert.BackReferenceIdeal.main_arg9) = m ((c.tc : Thread Cert.BackReferenceIdeal.nD Cert.BackReferenceIdeal.τ).loc Cert.BackReferenceIdeal.main_arg9)
      ∧ r.2.mem ((c.tc : Thread Cert.BackReferenceIdeal.nD Cert.BackReferenceIdeal.τ).loc Cert.BackReferenceIdeal.main_arg10) = m ((c.tc : Thread Cert.BackReferenceIdeal.nD Cert.BackReferenceIdeal.τ).loc Cert.BackReferenceIdeal.main_arg10)
      ∧ r.2.mem ((c.tc : Thread Cert.BackReferenceIdeal.nD Cert.BackReferenceIdeal.τ).loc Cert.BackReferenceIdeal.main_arg11) = m ((c.tc : Thread Cert.BackReferenceIdeal.nD Cert.BackReferenceIdeal.τ).loc Cert.BackReferenceIdeal.main_arg11))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12)
      ∧ r.2.mem ((c.tc : Thread Cert.Front.nD Cert.Front.τ).loc Cert.Front.main_arg13) = m ((c.tc : Thread Cert.Front.nD Cert.Front.τ).loc Cert.Front.main_arg13)
      ∧ r.2.mem ((c.tc : Thread Cert.Front.nD Cert.Front.τ).loc Cert.Front.main_arg14) = m ((c.tc : Thread Cert.Front.nD Cert.Front.τ).loc Cert.Front.main_arg14)
      ∧ r.2.mem ((c.tc : Thread Cert.Front.nD Cert.Front.τ).loc Cert.Front.main_arg15) = m ((c.tc : Thread Cert.Front.nD Cert.Front.τ).loc Cert.Front.main_arg15)
      ∧ r.2.mem ((c.tc : Thread Cert.Front.nD Cert.Front.τ).loc Cert.Front.main_arg16) = m ((c.tc : Thread Cert.Front.nD Cert.Front.τ).loc Cert.Front.main_arg16)
      ∧ r.2.mem ((c.tc : Thread Cert.Front.nD Cert.Front.τ).loc Cert.Front.main_arg17) = m ((c.tc : Thread Cert.Front.nD Cert.Front.τ).loc Cert.Front.main_arg17))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
      ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
      ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15)
      ∧ r.2.mem ((c.tc : Thread Cert.FrontIdeal.nD Cert.FrontIdeal.τ).loc Cert.FrontIdeal.main_arg16) = m ((c.tc : Thread Cert.FrontIdeal.nD Cert.FrontIdeal.τ).loc Cert.FrontIdeal.main_arg16)
      ∧ r.2.mem ((c.tc : Thread Cert.FrontIdeal.nD Cert.FrontIdeal.τ).loc Cert.FrontIdeal.main_arg17) = m ((c.tc : Thread Cert.FrontIdeal.nD Cert.FrontIdeal.τ).loc Cert.FrontIdeal.main_arg17))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12)
      ∧ r.2.mem ((c.tc : Thread Cert.FrontReferenceIdeal.nD Cert.FrontReferenceIdeal.τ).loc Cert.FrontReferenceIdeal.main_arg13) = m ((c.tc : Thread Cert.FrontReferenceIdeal.nD Cert.FrontReferenceIdeal.τ).loc Cert.FrontReferenceIdeal.main_arg13)
      ∧ r.2.mem ((c.tc : Thread Cert.FrontReferenceIdeal.nD Cert.FrontReferenceIdeal.τ).loc Cert.FrontReferenceIdeal.main_arg14) = m ((c.tc : Thread Cert.FrontReferenceIdeal.nD Cert.FrontReferenceIdeal.τ).loc Cert.FrontReferenceIdeal.main_arg14)
      ∧ r.2.mem ((c.tc : Thread Cert.FrontReferenceIdeal.nD Cert.FrontReferenceIdeal.τ).loc Cert.FrontReferenceIdeal.main_arg15) = m ((c.tc : Thread Cert.FrontReferenceIdeal.nD Cert.FrontReferenceIdeal.τ).loc Cert.FrontReferenceIdeal.main_arg15)
      ∧ r.2.mem ((c.tc : Thread Cert.FrontReferenceIdeal.nD Cert.FrontReferenceIdeal.τ).loc Cert.FrontReferenceIdeal.main_arg16) = m ((c.tc : Thread Cert.FrontReferenceIdeal.nD Cert.FrontReferenceIdeal.τ).loc Cert.FrontReferenceIdeal.main_arg16)
      ∧ r.2.mem ((c.tc : Thread Cert.FrontReferenceIdeal.nD Cert.FrontReferenceIdeal.τ).loc Cert.FrontReferenceIdeal.main_arg17) = m ((c.tc : Thread Cert.FrontReferenceIdeal.nD Cert.FrontReferenceIdeal.τ).loc Cert.FrontReferenceIdeal.main_arg17))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0xBFB8AA3B#32 ((-((Real.log 2)⁻¹) : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v77_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Back_BackIdeal : Prop :=
  True

def algebraic_BackIdeal_BackReferenceIdeal [hBackIdeal : Cert.BackIdeal.Facts] [hBackReferenceIdeal : Cert.BackReferenceIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)
      ∧ m' ((c.tc : Thread Cert.BackReferenceIdeal.nD Cert.BackReferenceIdeal.τ).loc Cert.BackReferenceIdeal.main_arg2) = m ((c.tc : Thread Cert.BackIdeal.nD Cert.BackIdeal.τ).loc Cert.BackIdeal.main_arg2)
      ∧ m' ((c.tc : Thread Cert.BackReferenceIdeal.nD Cert.BackReferenceIdeal.τ).loc Cert.BackReferenceIdeal.main_arg3) = m ((c.tc : Thread Cert.BackIdeal.nD Cert.BackIdeal.τ).loc Cert.BackIdeal.main_arg3)
      ∧ m' ((c.tc : Thread Cert.BackReferenceIdeal.nD Cert.BackReferenceIdeal.τ).loc Cert.BackReferenceIdeal.main_arg4) = m ((c.tc : Thread Cert.BackIdeal.nD Cert.BackIdeal.τ).loc Cert.BackIdeal.main_arg4)
      ∧ m' ((c.tc : Thread Cert.BackReferenceIdeal.nD Cert.BackReferenceIdeal.τ).loc Cert.BackReferenceIdeal.main_arg5) = m ((c.tc : Thread Cert.BackIdeal.nD Cert.BackIdeal.τ).loc Cert.BackIdeal.main_arg5)
      ∧ m' ((c.tc : Thread Cert.BackReferenceIdeal.nD Cert.BackReferenceIdeal.τ).loc Cert.BackReferenceIdeal.main_arg6) = m ((c.tc : Thread Cert.BackIdeal.nD Cert.BackIdeal.τ).loc Cert.BackIdeal.main_arg6)
      ∧ m' ((c.tc : Thread Cert.BackReferenceIdeal.nD Cert.BackReferenceIdeal.τ).loc Cert.BackReferenceIdeal.main_arg7) = m ((c.tc : Thread Cert.BackIdeal.nD Cert.BackIdeal.τ).loc Cert.BackIdeal.main_arg7)
      ∧ m' ((c.tc : Thread Cert.BackReferenceIdeal.nD Cert.BackReferenceIdeal.τ).loc Cert.BackReferenceIdeal.main_arg8) = m ((c.tc : Thread Cert.BackIdeal.nD Cert.BackIdeal.τ).loc Cert.BackIdeal.main_arg8)
      ∧ m' ((c.tc : Thread Cert.BackReferenceIdeal.nD Cert.BackReferenceIdeal.τ).loc Cert.BackReferenceIdeal.main_arg9) = m ((c.tc : Thread Cert.BackIdeal.nD Cert.BackIdeal.τ).loc Cert.BackIdeal.main_arg9)
      ∧ m' ((c.tc : Thread Cert.BackReferenceIdeal.nD Cert.BackReferenceIdeal.τ).loc Cert.BackReferenceIdeal.main_arg10) = m ((c.tc : Thread Cert.BackIdeal.nD Cert.BackIdeal.τ).loc Cert.BackIdeal.main_arg10)
      ∧ m' ((c.tc : Thread Cert.BackReferenceIdeal.nD Cert.BackReferenceIdeal.τ).loc Cert.BackReferenceIdeal.main_arg11) = m ((c.tc : Thread Cert.BackIdeal.nD Cert.BackIdeal.τ).loc Cert.BackIdeal.main_arg11)) →
    ∃ (v0 : (c : Dev Cert.BackIdeal.nD) → Buf (Elt Ideal) ((c.tc : Thread Cert.BackIdeal.nD Cert.BackIdeal.τ).loc Cert.BackIdeal.main_v20)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v20) = v0 c
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1)
          ∧ r.2.mem ((c.tc : Thread Cert.BackIdeal.nD Cert.BackIdeal.τ).loc Cert.BackIdeal.main_arg2) = m ((c.tc : Thread Cert.BackIdeal.nD Cert.BackIdeal.τ).loc Cert.BackIdeal.main_arg2)
          ∧ r.2.mem ((c.tc : Thread Cert.BackIdeal.nD Cert.BackIdeal.τ).loc Cert.BackIdeal.main_arg3) = m ((c.tc : Thread Cert.BackIdeal.nD Cert.BackIdeal.τ).loc Cert.BackIdeal.main_arg3)
          ∧ r.2.mem ((c.tc : Thread Cert.BackIdeal.nD Cert.BackIdeal.τ).loc Cert.BackIdeal.main_arg4) = m ((c.tc : Thread Cert.BackIdeal.nD Cert.BackIdeal.τ).loc Cert.BackIdeal.main_arg4)
          ∧ r.2.mem ((c.tc : Thread Cert.BackIdeal.nD Cert.BackIdeal.τ).loc Cert.BackIdeal.main_arg5) = m ((c.tc : Thread Cert.BackIdeal.nD Cert.BackIdeal.τ).loc Cert.BackIdeal.main_arg5)
          ∧ r.2.mem ((c.tc : Thread Cert.BackIdeal.nD Cert.BackIdeal.τ).loc Cert.BackIdeal.main_arg6) = m ((c.tc : Thread Cert.BackIdeal.nD Cert.BackIdeal.τ).loc Cert.BackIdeal.main_arg6)
          ∧ r.2.mem ((c.tc : Thread Cert.BackIdeal.nD Cert.BackIdeal.τ).loc Cert.BackIdeal.main_arg7) = m ((c.tc : Thread Cert.BackIdeal.nD Cert.BackIdeal.τ).loc Cert.BackIdeal.main_arg7)
          ∧ r.2.mem ((c.tc : Thread Cert.BackIdeal.nD Cert.BackIdeal.τ).loc Cert.BackIdeal.main_arg8) = m ((c.tc : Thread Cert.BackIdeal.nD Cert.BackIdeal.τ).loc Cert.BackIdeal.main_arg8)
          ∧ r.2.mem ((c.tc : Thread Cert.BackIdeal.nD Cert.BackIdeal.τ).loc Cert.BackIdeal.main_arg9) = m ((c.tc : Thread Cert.BackIdeal.nD Cert.BackIdeal.τ).loc Cert.BackIdeal.main_arg9)
          ∧ r.2.mem ((c.tc : Thread Cert.BackIdeal.nD Cert.BackIdeal.τ).loc Cert.BackIdeal.main_arg10) = m ((c.tc : Thread Cert.BackIdeal.nD Cert.BackIdeal.τ).loc Cert.BackIdeal.main_arg10)
          ∧ r.2.mem ((c.tc : Thread Cert.BackIdeal.nD Cert.BackIdeal.τ).loc Cert.BackIdeal.main_arg11) = m ((c.tc : Thread Cert.BackIdeal.nD Cert.BackIdeal.τ).loc Cert.BackIdeal.main_arg11))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v71) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7)
          ∧ r.2.mem ((c.tc : Thread Cert.BackReferenceIdeal.nD Cert.BackReferenceIdeal.τ).loc Cert.BackReferenceIdeal.main_arg8) = m' ((c.tc : Thread Cert.BackReferenceIdeal.nD Cert.BackReferenceIdeal.τ).loc Cert.BackReferenceIdeal.main_arg8)
          ∧ r.2.mem ((c.tc : Thread Cert.BackReferenceIdeal.nD Cert.BackReferenceIdeal.τ).loc Cert.BackReferenceIdeal.main_arg9) = m' ((c.tc : Thread Cert.BackReferenceIdeal.nD Cert.BackReferenceIdeal.τ).loc Cert.BackReferenceIdeal.main_arg9)
          ∧ r.2.mem ((c.tc : Thread Cert.BackReferenceIdeal.nD Cert.BackReferenceIdeal.τ).loc Cert.BackReferenceIdeal.main_arg10) = m' ((c.tc : Thread Cert.BackReferenceIdeal.nD Cert.BackReferenceIdeal.τ).loc Cert.BackReferenceIdeal.main_arg10)
          ∧ r.2.mem ((c.tc : Thread Cert.BackReferenceIdeal.nD Cert.BackReferenceIdeal.τ).loc Cert.BackReferenceIdeal.main_arg11) = m' ((c.tc : Thread Cert.BackReferenceIdeal.nD Cert.BackReferenceIdeal.τ).loc Cert.BackReferenceIdeal.main_arg11))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)
      ∧ m' ((c.tc : Thread Cert.FrontReferenceIdeal.nD Cert.FrontReferenceIdeal.τ).loc Cert.FrontReferenceIdeal.main_arg10) = m ((c.tc : Thread Cert.FrontIdeal.nD Cert.FrontIdeal.τ).loc Cert.FrontIdeal.main_arg10)
      ∧ m' ((c.tc : Thread Cert.FrontReferenceIdeal.nD Cert.FrontReferenceIdeal.τ).loc Cert.FrontReferenceIdeal.main_arg11) = m ((c.tc : Thread Cert.FrontIdeal.nD Cert.FrontIdeal.τ).loc Cert.FrontIdeal.main_arg11)
      ∧ m' ((c.tc : Thread Cert.FrontReferenceIdeal.nD Cert.FrontReferenceIdeal.τ).loc Cert.FrontReferenceIdeal.main_arg12) = m ((c.tc : Thread Cert.FrontIdeal.nD Cert.FrontIdeal.τ).loc Cert.FrontIdeal.main_arg12)
      ∧ m' ((c.tc : Thread Cert.FrontReferenceIdeal.nD Cert.FrontReferenceIdeal.τ).loc Cert.FrontReferenceIdeal.main_arg13) = m ((c.tc : Thread Cert.FrontIdeal.nD Cert.FrontIdeal.τ).loc Cert.FrontIdeal.main_arg13)
      ∧ m' ((c.tc : Thread Cert.FrontReferenceIdeal.nD Cert.FrontReferenceIdeal.τ).loc Cert.FrontReferenceIdeal.main_arg14) = m ((c.tc : Thread Cert.FrontIdeal.nD Cert.FrontIdeal.τ).loc Cert.FrontIdeal.main_arg14)
      ∧ m' ((c.tc : Thread Cert.FrontReferenceIdeal.nD Cert.FrontReferenceIdeal.τ).loc Cert.FrontReferenceIdeal.main_arg15) = m ((c.tc : Thread Cert.FrontIdeal.nD Cert.FrontIdeal.τ).loc Cert.FrontIdeal.main_arg15)
      ∧ m' ((c.tc : Thread Cert.FrontReferenceIdeal.nD Cert.FrontReferenceIdeal.τ).loc Cert.FrontReferenceIdeal.main_arg16) = m ((c.tc : Thread Cert.FrontIdeal.nD Cert.FrontIdeal.τ).loc Cert.FrontIdeal.main_arg16)
      ∧ m' ((c.tc : Thread Cert.FrontReferenceIdeal.nD Cert.FrontReferenceIdeal.τ).loc Cert.FrontReferenceIdeal.main_arg17) = m ((c.tc : Thread Cert.FrontIdeal.nD Cert.FrontIdeal.τ).loc Cert.FrontIdeal.main_arg17)) →
    ∃ (v0 : (c : Dev Cert.FrontIdeal.nD) → Buf (Elt Ideal) ((c.tc : Thread Cert.FrontIdeal.nD Cert.FrontIdeal.τ).loc Cert.FrontIdeal.main_v34_0)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v34_0) = v0 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
          ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
          ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
          ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15)
          ∧ r.2.mem ((c.tc : Thread Cert.FrontIdeal.nD Cert.FrontIdeal.τ).loc Cert.FrontIdeal.main_arg16) = m ((c.tc : Thread Cert.FrontIdeal.nD Cert.FrontIdeal.τ).loc Cert.FrontIdeal.main_arg16)
          ∧ r.2.mem ((c.tc : Thread Cert.FrontIdeal.nD Cert.FrontIdeal.τ).loc Cert.FrontIdeal.main_arg17) = m ((c.tc : Thread Cert.FrontIdeal.nD Cert.FrontIdeal.τ).loc Cert.FrontIdeal.main_arg17))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v25) = v0 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9)
          ∧ r.2.mem ((c.tc : Thread Cert.FrontReferenceIdeal.nD Cert.FrontReferenceIdeal.τ).loc Cert.FrontReferenceIdeal.main_arg10) = m' ((c.tc : Thread Cert.FrontReferenceIdeal.nD Cert.FrontReferenceIdeal.τ).loc Cert.FrontReferenceIdeal.main_arg10)
          ∧ r.2.mem ((c.tc : Thread Cert.FrontReferenceIdeal.nD Cert.FrontReferenceIdeal.τ).loc Cert.FrontReferenceIdeal.main_arg11) = m' ((c.tc : Thread Cert.FrontReferenceIdeal.nD Cert.FrontReferenceIdeal.τ).loc Cert.FrontReferenceIdeal.main_arg11)
          ∧ r.2.mem ((c.tc : Thread Cert.FrontReferenceIdeal.nD Cert.FrontReferenceIdeal.τ).loc Cert.FrontReferenceIdeal.main_arg12) = m' ((c.tc : Thread Cert.FrontReferenceIdeal.nD Cert.FrontReferenceIdeal.τ).loc Cert.FrontReferenceIdeal.main_arg12)
          ∧ r.2.mem ((c.tc : Thread Cert.FrontReferenceIdeal.nD Cert.FrontReferenceIdeal.τ).loc Cert.FrontReferenceIdeal.main_arg13) = m' ((c.tc : Thread Cert.FrontReferenceIdeal.nD Cert.FrontReferenceIdeal.τ).loc Cert.FrontReferenceIdeal.main_arg13)
          ∧ r.2.mem ((c.tc : Thread Cert.FrontReferenceIdeal.nD Cert.FrontReferenceIdeal.τ).loc Cert.FrontReferenceIdeal.main_arg14) = m' ((c.tc : Thread Cert.FrontReferenceIdeal.nD Cert.FrontReferenceIdeal.τ).loc Cert.FrontReferenceIdeal.main_arg14)
          ∧ r.2.mem ((c.tc : Thread Cert.FrontReferenceIdeal.nD Cert.FrontReferenceIdeal.τ).loc Cert.FrontReferenceIdeal.main_arg15) = m' ((c.tc : Thread Cert.FrontReferenceIdeal.nD Cert.FrontReferenceIdeal.τ).loc Cert.FrontReferenceIdeal.main_arg15)
          ∧ r.2.mem ((c.tc : Thread Cert.FrontReferenceIdeal.nD Cert.FrontReferenceIdeal.τ).loc Cert.FrontReferenceIdeal.main_arg16) = m' ((c.tc : Thread Cert.FrontReferenceIdeal.nD Cert.FrontReferenceIdeal.τ).loc Cert.FrontReferenceIdeal.main_arg16)
          ∧ r.2.mem ((c.tc : Thread Cert.FrontReferenceIdeal.nD Cert.FrontReferenceIdeal.τ).loc Cert.FrontReferenceIdeal.main_arg17) = m' ((c.tc : Thread Cert.FrontReferenceIdeal.nD Cert.FrontReferenceIdeal.τ).loc Cert.FrontReferenceIdeal.main_arg17))

def Claim : Prop :=
  ∃ (hKernel : Cert.Kernel.Facts) (hKernelIdeal : Cert.KernelIdeal.Facts) (hReferenceIdeal : Cert.ReferenceIdeal.Facts) (hBack : Cert.Back.Facts) (hBackIdeal : Cert.BackIdeal.Facts) (hBackReferenceIdeal : Cert.BackReferenceIdeal.Facts) (hFront : Cert.Front.Facts) (hFrontIdeal : Cert.FrontIdeal.Facts) (hFrontReferenceIdeal : Cert.FrontReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Back (hBack := hBack)
    ∧ quiescent_BackIdeal (hBackIdeal := hBackIdeal)
    ∧ quiescent_BackReferenceIdeal (hBackReferenceIdeal := hBackReferenceIdeal)
    ∧ quiescent_Front (hFront := hFront)
    ∧ quiescent_FrontIdeal (hFrontIdeal := hFrontIdeal)
    ∧ quiescent_FrontReferenceIdeal (hFrontReferenceIdeal := hFrontReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Back_BackIdeal
    ∧ algebraic_BackIdeal_BackReferenceIdeal (hBackIdeal := hBackIdeal) (hBackReferenceIdeal := hBackReferenceIdeal)
    ∧ preserves_Front_FrontIdeal
    ∧ algebraic_FrontIdeal_FrontReferenceIdeal (hFrontIdeal := hFrontIdeal) (hFrontReferenceIdeal := hFrontReferenceIdeal)
-- ==== Pre_finite_qk.lean ====
abbrev S16x2048x4x192 : Shape := ⟨4, ![16, 2048, 4, 192]⟩
abbrev S16x2048x4x128 : Shape := ⟨4, ![16, 2048, 4, 128]⟩
abbrev S16x4x192 : Shape := ⟨3, ![16, 4, 192]⟩
abbrev S16x4x128 : Shape := ⟨3, ![16, 4, 128]⟩
abbrev S16x2048x512 : Shape := ⟨3, ![16, 2048, 512]⟩
abbrev S16x512 : Shape := ⟨2, ![16, 512]⟩
abbrev S48x512 : Shape := ⟨2, ![48, 512]⟩
abbrev S1x4x512 : Shape := ⟨3, ![1, 4, 512]⟩
abbrev S1x512 : Shape := ⟨2, ![1, 512]⟩
abbrev S1x8x64x64 : Shape := ⟨4, ![1, 8, 64, 64]⟩
abbrev S_ : Shape := ⟨0, ![]⟩

class Facts : Prop where
  bcast_S_S16x2048x4x192 : S_.BroadcastsInDim S16x2048x4x192 (![] : Fin 0 → Fin S16x2048x4x192.rank)
  reducesTo_S16x2048x4x192_S_d0_1_2_3 : S16x2048x4x192.ReducesTo [0, 1, 2, 3] S_
  h_S_ : 0 < S_.numel
  bcast_S_S16x4x192 : S_.BroadcastsInDim S16x4x192 (![] : Fin 0 → Fin S16x4x192.rank)
  reducesTo_S16x4x192_S_d0_1_2 : S16x4x192.ReducesTo [0, 1, 2] S_

variable [Facts]

def fn {F : FTy → Type} [FloatOps F] (main_arg0 : FVec F S16x2048x4x192 .f32) (main_arg1 : FVec F S16x2048x4x192 .f32) (main_arg2 : FVec F S16x2048x4x128 .f32) (main_arg3 : FVec F S16x4x192 .f32) (main_arg4 : FVec F S16x4x128 .f32) (main_arg5 : FVec F S16x2048x512 .f32) (main_arg6 : FVec F S16x512 .f32) (main_arg7 : FVec F S48x512 .f32) (main_arg8 : FVec F S1x4x512 .f32) (main_arg9 : FVec F S1x512 .f32) (main_arg10 : FVec F S1x8x64x64 .f32) (main_arg11 : FVec F S1x512 .f32) (main_arg12 : FVec F S1x8x64x64 .f32) (main_arg13 : FVec F S1x512 .f32) (main_arg14 : FVec F S1x512 .f32) : IVec S_ 1 × IVec S_ 1 × IVec S_ 1 :=
  let main_v0 : FVec F S16x2048x4x192 .f32 := Host.absf main_arg0
  let main_cst : FVec F S_ .f32 := constant S_ .f32 0x7F800000#32
  let main_v1 : FVec F S16x2048x4x192 .f32 := broadcastInDim S16x2048x4x192 ![] bcast_S_S16x2048x4x192 main_cst
  let main_v2 : IVec S16x2048x4x192 1 := cmpf .olt main_v0 main_v1
  let main_c : IVec S_ 1 := constantI S_ 1 1#1
  let main_v3 : IVec S_ 1 := (fun x v => Host.reduce IntOp.andi x v reducesTo_S16x2048x4x192_S_d0_1_2_3 h_S_) main_v2 main_c
  let main_v4 : FVec F S16x2048x4x192 .f32 := Host.absf main_arg1
  let main_cst_0 : FVec F S_ .f32 := constant S_ .f32 0x7F800000#32
  let main_v5 : FVec F S16x2048x4x192 .f32 := broadcastInDim S16x2048x4x192 ![] bcast_S_S16x2048x4x192 main_cst_0
  let main_v6 : IVec S16x2048x4x192 1 := cmpf .olt main_v4 main_v5
  let main_c_1 : IVec S_ 1 := constantI S_ 1 1#1
  let main_v7 : IVec S_ 1 := (fun x v => Host.reduce IntOp.andi x v reducesTo_S16x2048x4x192_S_d0_1_2_3 h_S_) main_v6 main_c_1
  let main_v8 : FVec F S16x4x192 .f32 := Host.absf main_arg3
  let main_cst_2 : FVec F S_ .f32 := constant S_ .f32 0x7F800000#32
  let main_v9 : FVec F S16x4x192 .f32 := broadcastInDim S16x4x192 ![] bcast_S_S16x4x192 main_cst_2
  let main_v10 : IVec S16x4x192 1 := cmpf .olt main_v8 main_v9
  let main_c_3 : IVec S_ 1 := constantI S_ 1 1#1
  let main_v11 : IVec S_ 1 := (fun x v => Host.reduce IntOp.andi x v reducesTo_S16x4x192_S_d0_1_2 h_S_) main_v10 main_c_3
  (main_v3, main_v7, main_v11)
-- ==== Kernel.lean ====
abbrev S16x2048x4x192 : Shape := ⟨4, ![16, 2048, 4, 192]⟩
abbrev S16x2048x4x128 : Shape := ⟨4, ![16, 2048, 4, 128]⟩
abbrev S16x4x192 : Shape := ⟨3, ![16, 4, 192]⟩
abbrev S16x4x128 : Shape := ⟨3, ![16, 4, 128]⟩
abbrev S16x2048x512 : Shape := ⟨3, ![16, 2048, 512]⟩
abbrev S16x512 : Shape := ⟨2, ![16, 512]⟩
abbrev S48x512 : Shape := ⟨2, ![48, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S2x4x64x64 : Shape := ⟨4, ![2, 4, 64, 64]⟩
abbrev S4x4 : Shape := ⟨2, ![4, 4]⟩
abbrev S_ : Shape := ⟨0, ![]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S16x2048x4x256 : Shape := ⟨4, ![16, 2048, 4, 256]⟩
abbrev S16x4x2048x256 : Shape := ⟨4, ![16, 4, 2048, 256]⟩
abbrev S1x16x4x192 : Shape := ⟨4, ![1, 16, 4, 192]⟩
abbrev S1x16x4x256 : Shape := ⟨4, ![1, 16, 4, 256]⟩
abbrev S1x4x16x256 : Shape := ⟨4, ![1, 4, 16, 256]⟩
abbrev S1x16x4x128 : Shape := ⟨4, ![1, 16, 4, 128]⟩
abbrev S1x16x512 : Shape := ⟨3, ![1, 16, 512]⟩
abbrev S256x256 : Shape := ⟨2, ![256, 256]⟩
abbrev S16x16x256 : Shape := ⟨3, ![16, 16, 256]⟩
abbrev S1x2x2048x256 : Shape := ⟨4, ![1, 2, 2048, 256]⟩
abbrev S1x2048x256 : Shape := ⟨3, ![1, 2048, 256]⟩
abbrev S1x2x16x256 : Shape := ⟨4, ![1, 2, 16, 256]⟩
abbrev S1x16x256 : Shape := ⟨3, ![1, 16, 256]⟩
abbrev S16x64x512 : Shape := ⟨3, ![16, 64, 512]⟩
abbrev S2x2304x256 : Shape := ⟨3, ![2, 2304, 256]⟩
abbrev S304x512 : Shape := ⟨2, ![304, 512]⟩
abbrev S1x1x16x256 : Shape := ⟨4, ![1, 1, 16, 256]⟩
abbrev S16x256 : Shape := ⟨2, ![16, 256]⟩
abbrev S1x1x2048x256 : Shape := ⟨4, ![1, 1, 2048, 256]⟩
abbrev S2048x256 : Shape := ⟨2, ![2048, 256]⟩
abbrev S1x16x128 : Shape := ⟨3, ![1, 16, 128]⟩
abbrev S16x128 : Shape := ⟨2, ![16, 128]⟩
abbrev S1x2048x128 : Shape := ⟨3, ![1, 2048, 128]⟩
abbrev S2048x128 : Shape := ⟨2, ![2048, 128]⟩
abbrev S240x128 : Shape := ⟨2, ![240, 128]⟩
abbrev S1x240x128 : Shape := ⟨3, ![1, 240, 128]⟩
abbrev S240x256 : Shape := ⟨2, ![240, 256]⟩
abbrev S1x240x256 : Shape := ⟨3, ![1, 240, 256]⟩
abbrev S2304x128 : Shape := ⟨2, ![2304, 128]⟩
abbrev S1x2304x128 : Shape := ⟨3, ![1, 2304, 128]⟩
abbrev S1x1x64x256 : Shape := ⟨4, ![1, 1, 64, 256]⟩
abbrev S64x256 : Shape := ⟨2, ![64, 256]⟩
abbrev S1x256x256 : Shape := ⟨3, ![1, 256, 256]⟩
abbrev S64x2048 : Shape := ⟨2, ![64, 2048]⟩
abbrev S64 : Shape := ⟨1, ![64]⟩
abbrev S64x1 : Shape := ⟨2, ![64, 1]⟩
abbrev S64x128 : Shape := ⟨2, ![64, 128]⟩
abbrev S1x64x128 : Shape := ⟨3, ![1, 64, 128]⟩
abbrev S256x512 : Shape := ⟨2, ![256, 512]⟩
abbrev S1x1x192x256 : Shape := ⟨4, ![1, 1, 192, 256]⟩
abbrev S192x256 : Shape := ⟨2, ![192, 256]⟩
abbrev S192 : Shape := ⟨1, ![192]⟩
abbrev S192x1 : Shape := ⟨2, ![192, 1]⟩
abbrev S192x128 : Shape := ⟨2, ![192, 128]⟩
abbrev S1x192x128 : Shape := ⟨3, ![1, 192, 128]⟩
abbrev S1x1x256x256 : Shape := ⟨4, ![1, 1, 256, 256]⟩
abbrev S1x1792x256 : Shape := ⟨3, ![1, 1792, 256]⟩
abbrev S1792x256 : Shape := ⟨2, ![1792, 256]⟩
abbrev S256x1792 : Shape := ⟨2, ![256, 1792]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x1536x256 : Shape := ⟨3, ![1, 1536, 256]⟩
abbrev S1536x256 : Shape := ⟨2, ![1536, 256]⟩
abbrev S256x1536 : Shape := ⟨2, ![256, 1536]⟩
abbrev S1x512x256 : Shape := ⟨3, ![1, 512, 256]⟩
abbrev S512x256 : Shape := ⟨2, ![512, 256]⟩
abbrev S1x1280x256 : Shape := ⟨3, ![1, 1280, 256]⟩
abbrev S1280x256 : Shape := ⟨2, ![1280, 256]⟩
abbrev S256x1280 : Shape := ⟨2, ![256, 1280]⟩
abbrev S1x768x256 : Shape := ⟨3, ![1, 768, 256]⟩
abbrev S768x256 : Shape := ⟨2, ![768, 256]⟩
abbrev S256x768 : Shape := ⟨2, ![256, 768]⟩
abbrev S1x1024x256 : Shape := ⟨3, ![1, 1024, 256]⟩
abbrev S1024x256 : Shape := ⟨2, ![1024, 256]⟩
abbrev S256x1024 : Shape := ⟨2, ![256, 1024]⟩

abbrev nBuf : Space → Nat
  | .hbm => 109
  | .vmem => 30
  | .smem => 0
  | _ => 0

abbrev bufTy : (tb : Table) → Fin (tcTables nBuf tb) → BufTy
  | .hbm, ⟨0, _⟩ => ⟨S16x2048x4x192, .f32⟩
  | .hbm, ⟨1, _⟩ => ⟨S16x2048x4x192, .f32⟩
  | .hbm, ⟨2, _⟩ => ⟨S16x2048x4x128, .f32⟩
  | .hbm, ⟨3, _⟩ => ⟨S16x4x192, .f32⟩
  | .hbm, ⟨4, _⟩ => ⟨S16x4x128, .f32⟩
  | .hbm, ⟨5, _⟩ => ⟨S16x2048x512, .f32⟩
  | .hbm, ⟨6, _⟩ => ⟨S16x512, .f32⟩
  | .hbm, ⟨7, _⟩ => ⟨S48x512, .f32⟩
  | .hbm, ⟨8, _⟩ => ⟨S1x4x512, .f32⟩
  | .hbm, ⟨9, _⟩ => ⟨S1x512, .f32⟩
  | .hbm, ⟨10, _⟩ => ⟨S1x8x64x64, .f32⟩
  | .hbm, ⟨11, _⟩ => ⟨S1x512, .f32⟩
  | .hbm, ⟨12, _⟩ => ⟨S1x8x64x64, .f32⟩
  | .hbm, ⟨13, _⟩ => ⟨S1x512, .f32⟩
  | .hbm, ⟨14, _⟩ => ⟨S1x512, .f32⟩
  | .hbm, ⟨15, _⟩ => ⟨S4x512, .f32⟩
  | .hbm, ⟨16, _⟩ => ⟨S512, .f32⟩
  | .hbm, ⟨17, _⟩ => ⟨S1x512, .f32⟩
  | .hbm, ⟨18, _⟩ => ⟨S8x64x64, .f32⟩
  | .hbm, ⟨19, _⟩ => ⟨S2x4x64x64, .f32⟩
  | .hbm, ⟨20, _⟩ => ⟨S4x4, .i32⟩
  | .hbm, ⟨21, _⟩ => ⟨S4x4, .i32⟩
  | .hbm, ⟨22, _⟩ => ⟨S_, .i32⟩
  | .hbm, ⟨23, _⟩ => ⟨S4x4, .i32⟩
  | .hbm, ⟨24, _⟩ => ⟨S4x4, .i32⟩
  | .hbm, ⟨25, _⟩ => ⟨S4x4, .i1⟩
  | .hbm, ⟨26, _⟩ => ⟨S4x4, .f32⟩
  | .hbm, ⟨27, _⟩ => ⟨S2x4x64x1x64, .f32⟩
  | .hbm, ⟨28, _⟩ => ⟨S1x4x1x4x1, .f32⟩
  | .hbm, ⟨29, _⟩ => ⟨S2x4x64x4x64, .f32⟩
  | .hbm, ⟨30, _⟩ => ⟨S2x4x64x4x64, .f32⟩
  | .hbm, ⟨31, _⟩ => ⟨S2x4x64x4x64, .f32⟩
  | .hbm, ⟨32, _⟩ => ⟨S2x256x256, .f32⟩
  | .hbm, ⟨33, _⟩ => ⟨S_, .f32⟩
  | .hbm, ⟨34, _⟩ => ⟨S2x256x256, .f32⟩
  | .hbm, ⟨35, _⟩ => ⟨S2x256x256, .f32⟩
  | .hbm, ⟨36, _⟩ => ⟨S2x256x256, .bf16⟩
  | .hbm, ⟨37, _⟩ => ⟨S512, .f32⟩
  | .hbm, ⟨38, _⟩ => ⟨S1x512, .f32⟩
  | .hbm, ⟨39, _⟩ => ⟨S_, .f32⟩
  | .hbm, ⟨40, _⟩ => ⟨S1x512, .f32⟩
  | .hbm, ⟨41, _⟩ => ⟨S1x512, .f32⟩
  | .hbm, ⟨42, _⟩ => ⟨S8x64x64, .f32⟩
  | .hbm, ⟨43, _⟩ => ⟨S2x4x64x64, .f32⟩
  | .hbm, ⟨44, _⟩ => ⟨S4x4, .i32⟩
  | .hbm, ⟨45, _⟩ => ⟨S4x4, .i32⟩
  | .hbm, ⟨46, _⟩ => ⟨S_, .i32⟩
  | .hbm, ⟨47, _⟩ => ⟨S4x4, .i32⟩
  | .hbm, ⟨48, _⟩ => ⟨S4x4, .i32⟩
  | .hbm, ⟨49, _⟩ => ⟨S4x4, .i1⟩
  | .hbm, ⟨50, _⟩ => ⟨S4x4, .f32⟩
  | .hbm, ⟨51, _⟩ => ⟨S2x4x64x1x64, .f32⟩
  | .hbm, ⟨52, _⟩ => ⟨S1x4x1x4x1, .f32⟩
  | .hbm, ⟨53, _⟩ => ⟨S2x4x64x4x64, .f32⟩
  | .hbm, ⟨54, _⟩ => ⟨S2x4x64x4x64, .f32⟩
  | .hbm, ⟨55, _⟩ => ⟨S2x4x64x4x64, .f32⟩
  | .hbm, ⟨56, _⟩ => ⟨S2x256x256, .f32⟩
  | .hbm, ⟨57, _⟩ => ⟨S_, .f32⟩
  | .hbm, ⟨58, _⟩ => ⟨S2x256x256, .f32⟩
  | .hbm, ⟨59, _⟩ => ⟨S2x256x256, .f32⟩
  | .hbm, ⟨60, _⟩ => ⟨S2x256x256, .bf16⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S512, .f32⟩
  | .hbm, ⟨67, _⟩ => ⟨S1x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S16x2048x4x192, .f32⟩
  | .hbm, ⟨74, _⟩ => ⟨S16x2048x4x192, .f32⟩
  | .hbm, ⟨75, _⟩ => ⟨S_, .i32⟩
  | .hbm, ⟨76, _⟩ => ⟨S_, .f32⟩
  | .hbm, ⟨77, _⟩ => ⟨S16x2048x4x256, .f32⟩
  | .hbm, ⟨78, _⟩ => ⟨S16x4x2048x256, .f32⟩
  | .hbm, ⟨79, _⟩ => ⟨S16x4x2048x256, .bf16⟩
  | .hbm, ⟨80, _⟩ => ⟨S_, .i32⟩
  | .hbm, ⟨81, _⟩ => ⟨S_, .f32⟩
  | .hbm, ⟨82, _⟩ => ⟨S16x2048x4x256, .f32⟩
  | .hbm, ⟨83, _⟩ => ⟨S16x4x2048x256, .f32⟩
  | .hbm, ⟨84, _⟩ => ⟨S16x4x2048x256, .bf16⟩
  | .hbm, ⟨85, _⟩ => ⟨S16x2048x512, .f32⟩
  | .hbm, ⟨86, _⟩ => ⟨S16x2048x512, .bf16⟩
  | .hbm, ⟨87, _⟩ => ⟨S1x16x4x192, .f32⟩
  | .hbm, ⟨88, _⟩ => ⟨S_, .i32⟩
  | .hbm, ⟨89, _⟩ => ⟨S_, .f32⟩
  | .hbm, ⟨90, _⟩ => ⟨S1x16x4x256, .f32⟩
  | .hbm, ⟨91, _⟩ => ⟨S1x4x16x256, .f32⟩
  | .hbm, ⟨92, _⟩ => ⟨S1x4x16x256, .bf16⟩
  | .hbm, ⟨93, _⟩ => ⟨S1x16x4x128, .f32⟩
  | .hbm, ⟨94, _⟩ => ⟨S1x16x512, .f32⟩
  | .hbm, ⟨95, _⟩ => ⟨S1x16x512, .bf16⟩
  | .hbm, ⟨96, _⟩ => ⟨S16x2048x512, .bf16⟩
  | .hbm, ⟨97, _⟩ => ⟨S256x256, .i32⟩
  | .hbm, ⟨98, _⟩ => ⟨S256x256, .i32⟩
  | .hbm, ⟨99, _⟩ => ⟨S_, .i32⟩
  | .hbm, ⟨100, _⟩ => ⟨S256x256, .i32⟩
  | .hbm, ⟨101, _⟩ => ⟨S256x256, .i32⟩
  | .hbm, ⟨102, _⟩ => ⟨S256x256, .i1⟩
  | .hbm, ⟨103, _⟩ => ⟨S256x256, .bf16⟩
  | .hbm, ⟨104, _⟩ => ⟨S16x16x256, .bf16⟩
  | .hbm, ⟨105, _⟩ => ⟨S16x16x256, .bf16⟩
  | .hbm, ⟨106, _⟩ => ⟨S256x256, .bf16⟩
  | .hbm, ⟨107, _⟩ => ⟨S16x2048x512, .bf16⟩
  | .hbm, ⟨108, _⟩ => ⟨S16x2048x512, .bf16⟩
  | .local _ .vmem, ⟨0, _⟩ => ⟨S1x2x2048x256, .bf16⟩
  | .local _ .vmem, ⟨1, _⟩ => ⟨S1x2x2048x256, .bf16⟩
  | .local _ .vmem, ⟨2, _⟩ => ⟨S1x2x2048x256, .bf16⟩
  | .local _ .vmem, ⟨3, _⟩ => ⟨S1x2x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2x16x256, .bf16⟩
  | .local _ .vmem, ⟨7, _⟩ => ⟨S1x2x16x256, .bf16⟩
  | .local _ .vmem, ⟨8, _⟩ => ⟨S1x16x256, .bf16⟩
  | .local _ .vmem, ⟨9, _⟩ => ⟨S1x16x256, .bf16⟩
  | .local _ .vmem, ⟨10, _⟩ => ⟨S16x64x512, .bf16⟩
  | .local _ .vmem, ⟨11, _⟩ => ⟨S16x64x512, .bf16⟩
  | .local _ .vmem, ⟨12, _⟩ => ⟨S16x512, .f32⟩
  | .local _ .vmem, ⟨13, _⟩ => ⟨S48x512, .f32⟩
  | .local _ .vmem, ⟨14, _⟩ => ⟨S256x256, .bf16⟩
  | .local _ .vmem, ⟨15, _⟩ => ⟨S4x512, .f32⟩
  | .local _ .vmem, ⟨16, _⟩ => ⟨S1x512, .f32⟩
  | .local _ .vmem, ⟨17, _⟩ => ⟨S2x256x256, .bf16⟩
  | .local _ .vmem, ⟨18, _⟩ => ⟨S1x512, .f32⟩
  | .local _ .vmem, ⟨19, _⟩ => ⟨S2x256x256, .bf16⟩
  | .local _ .vmem, ⟨20, _⟩ => ⟨S1x512, .f32⟩
  | .local _ .vmem, ⟨21, _⟩ => ⟨S1x512, .f32⟩
  | .local _ .vmem, ⟨22, _⟩ => ⟨S1x2048x256, .bf16⟩
  | .local _ .vmem, ⟨23, _⟩ => ⟨S1x2048x256, .bf16⟩
  | .local _ .vmem, ⟨24, _⟩ => ⟨S16x64x512, .bf16⟩
  | .local _ .vmem, ⟨25, _⟩ => ⟨S16x64x512, .bf16⟩
  | .local _ .vmem, ⟨26, _⟩ => ⟨S2x2304x256, .bf16⟩
  | .local _ .vmem, ⟨27, _⟩ => ⟨S2x2304x256, .bf16⟩
  | .local _ .vmem, ⟨28, _⟩ => ⟨S304x512, .f32⟩
  | .local _ .vmem, ⟨29, _⟩ => ⟨S16x512, .f32⟩
  | _, _ => ⟨S16x2048x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_1 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_cst_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_call0_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_7 : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_8 : Ref sig .tc := ⟨.hbm, 88, rfl⟩
abbrev main_call2_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_9 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77_0 : Ref sig .tc := ⟨.hbm, 107, rfl⟩
abbrev main_v77_1 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S48x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x2048x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x64x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KernelIdeal.lean ====
variable {F : FTy → Type} [FloatOps F] [Named F]
def κ : String → Option EReal := fun
  | "log2e" => some ((-((Real.log 2)⁻¹) : ℝ) : EReal)
  | "mask" => some ⊥
  | _ => none
-- ==== ReferenceIdeal.lean ====
abbrev S16x2048x4x192 : Shape := ⟨4, ![16, 2048, 4, 192]⟩
abbrev S16x2048x4x128 : Shape := ⟨4, ![16, 2048, 4, 128]⟩
abbrev S16x4x192 : Shape := ⟨3, ![16, 4, 192]⟩
abbrev S16x4x128 : Shape := ⟨3, ![16, 4, 128]⟩
abbrev S16x2048x512 : Shape := ⟨3, ![16, 2048, 512]⟩
abbrev S16x512 : Shape := ⟨2, ![16, 512]⟩
abbrev S48x512 : Shape := ⟨2, ![48, 512]⟩
abbrev S1x4x512 : Shape := ⟨3, ![1, 4, 512]⟩
abbrev S1x512 : Shape := ⟨2, ![1, 512]⟩
abbrev S1x8x64x64 : Shape := ⟨4, ![1, 8, 64, 64]⟩
abbrev S1x16x4x192 : Shape := ⟨4, ![1, 16, 4, 192]⟩
abbrev S16x16x4x192 : Shape := ⟨4, ![16, 16, 4, 192]⟩
abbrev S16x2064x4x192 : Shape := ⟨4, ![16, 2064, 4, 192]⟩
abbrev S1x16x4x128 : Shape := ⟨4, ![1, 16, 4, 128]⟩
abbrev S16x16x4x128 : Shape := ⟨4, ![16, 16, 4, 128]⟩
abbrev S16x2064x4x128 : Shape := ⟨4, ![16, 2064, 4, 128]⟩
abbrev S2064 : Shape := ⟨1, ![2064]⟩
abbrev S_ : Shape := ⟨0, ![]⟩
abbrev S16x4x2048x2064 : Shape := ⟨4, ![16, 4, 2048, 2064]⟩
abbrev S1x2064 : Shape := ⟨2, ![1, 2064]⟩
abbrev S2048 : Shape := ⟨1, ![2048]⟩
abbrev S2048x1 : Shape := ⟨2, ![2048, 1]⟩
abbrev S2048x2064 : Shape := ⟨2, ![2048, 2064]⟩
abbrev S1x1x2048x2064 : Shape := ⟨4, ![1, 1, 2048, 2064]⟩
abbrev S16x4x2048 : Shape := ⟨3, ![16, 4, 2048]⟩
abbrev S16x4x2048x1 : Shape := ⟨4, ![16, 4, 2048, 1]⟩
abbrev S16x4x2048x128 : Shape := ⟨4, ![16, 4, 2048, 128]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x4x192, .f32⟩
  | .hbm, ⟨1, _⟩ => ⟨S16x2048x4x192, .f32⟩
  | .hbm, ⟨2, _⟩ => ⟨S16x2048x4x128, .f32⟩
  | .hbm, ⟨3, _⟩ => ⟨S16x4x192, .f32⟩
  | .hbm, ⟨4, _⟩ => ⟨S16x4x128, .f32⟩
  | .hbm, ⟨5, _⟩ => ⟨S16x2048x512, .f32⟩
  | .hbm, ⟨6, _⟩ => ⟨S16x512, .f32⟩
  | .hbm, ⟨7, _⟩ => ⟨S48x512, .f32⟩
  | .hbm, ⟨8, _⟩ => ⟨S1x4x512, .f32⟩
  | .hbm, ⟨9, _⟩ => ⟨S1x512, .f32⟩
  | .hbm, ⟨10, _⟩ => ⟨S1x8x64x64, .f32⟩
  | .hbm, ⟨11, _⟩ => ⟨S1x512, .f32⟩
  | .hbm, ⟨12, _⟩ => ⟨S1x8x64x64, .f32⟩
  | .hbm, ⟨13, _⟩ => ⟨S1x512, .f32⟩
  | .hbm, ⟨14, _⟩ => ⟨S1x512, .f32⟩
  | .hbm, ⟨15, _⟩ => ⟨S1x16x4x192, .f32⟩
  | .hbm, ⟨16, _⟩ => ⟨S16x16x4x192, .f32⟩
  | .hbm, ⟨17, _⟩ => ⟨S16x2064x4x192, .f32⟩
  | .hbm, ⟨18, _⟩ => ⟨S1x16x4x128, .f32⟩
  | .hbm, ⟨19, _⟩ => ⟨S16x16x4x128, .f32⟩
  | .hbm, ⟨20, _⟩ => ⟨S16x2064x4x128, .f32⟩
  | .hbm, ⟨21, _⟩ => ⟨S2064, .i32⟩
  | .hbm, ⟨22, _⟩ => ⟨S_, .i32⟩
  | .hbm, ⟨23, _⟩ => ⟨S2064, .i32⟩
  | .hbm, ⟨24, _⟩ => ⟨S2064, .i32⟩
  | .hbm, ⟨25, _⟩ => ⟨S_, .i32⟩
  | .hbm, ⟨26, _⟩ => ⟨S_, .i32⟩
  | .hbm, ⟨27, _⟩ => ⟨S2064, .i32⟩
  | .hbm, ⟨28, _⟩ => ⟨S2064, .i32⟩
  | .hbm, ⟨29, _⟩ => ⟨S2064, .i32⟩
  | .hbm, ⟨30, _⟩ => ⟨S_, .i32⟩
  | .hbm, ⟨31, _⟩ => ⟨S2064, .i32⟩
  | .hbm, ⟨32, _⟩ => ⟨S2064, .i1⟩
  | .hbm, ⟨33, _⟩ => ⟨S2064, .i32⟩
  | .hbm, ⟨34, _⟩ => ⟨S2064, .i32⟩
  | .hbm, ⟨35, _⟩ => ⟨S_, .i32⟩
  | .hbm, ⟨36, _⟩ => ⟨S2064, .i32⟩
  | .hbm, ⟨37, _⟩ => ⟨S2064, .i1⟩
  | .hbm, ⟨38, _⟩ => ⟨S2064, .i1⟩
  | .hbm, ⟨39, _⟩ => ⟨S_, .i32⟩
  | .hbm, ⟨40, _⟩ => ⟨S2064, .i32⟩
  | .hbm, ⟨41, _⟩ => ⟨S2064, .i32⟩
  | .hbm, ⟨42, _⟩ => ⟨S2064, .i32⟩
  | .hbm, ⟨43, _⟩ => ⟨S16x4x2048x2064, .f32⟩
  | .hbm, ⟨44, _⟩ => ⟨S_, .f32⟩
  | .hbm, ⟨45, _⟩ => ⟨S_, .f32⟩
  | .hbm, ⟨46, _⟩ => ⟨S16x4x2048x2064, .f32⟩
  | .hbm, ⟨47, _⟩ => ⟨S16x4x2048x2064, .f32⟩
  | .hbm, ⟨48, _⟩ => ⟨S1x2064, .i32⟩
  | .hbm, ⟨49, _⟩ => ⟨S2048, .i32⟩
  | .hbm, ⟨50, _⟩ => ⟨S2048x1, .i32⟩
  | .hbm, ⟨51, _⟩ => ⟨S2048x2064, .i32⟩
  | .hbm, ⟨52, _⟩ => ⟨S2048x2064, .i32⟩
  | .hbm, ⟨53, _⟩ => ⟨S2048x2064, .i1⟩
  | .hbm, ⟨54, _⟩ => ⟨S1x1x2048x2064, .i1⟩
  | .hbm, ⟨55, _⟩ => ⟨S_, .f32⟩
  | .hbm, ⟨56, _⟩ => ⟨S_, .f32⟩
  | .hbm, ⟨57, _⟩ => ⟨S16x4x2048x2064, .i1⟩
  | .hbm, ⟨58, _⟩ => ⟨S16x4x2048x2064, .f32⟩
  | .hbm, ⟨59, _⟩ => ⟨S16x4x2048x2064, .f32⟩
  | .hbm, ⟨60, _⟩ => ⟨S_, .f32⟩
  | .hbm, ⟨61, _⟩ => ⟨S16x4x2048, .f32⟩
  | .hbm, ⟨62, _⟩ => ⟨S_, .f32⟩
  | .hbm, ⟨63, _⟩ => ⟨S16x4x2048, .f32⟩
  | .hbm, ⟨64, _⟩ => ⟨S16x4x2048, .f32⟩
  | .hbm, ⟨65, _⟩ => ⟨S16x4x2048x1, .f32⟩
  | .hbm, ⟨66, _⟩ => ⟨S16x4x2048x2064, .f32⟩
  | .hbm, ⟨67, _⟩ => ⟨S16x4x2048x2064, .f32⟩
  | .hbm, ⟨68, _⟩ => ⟨S16x4x2048x2064, .f32⟩
  | .hbm, ⟨69, _⟩ => ⟨S_, .f32⟩
  | .hbm, ⟨70, _⟩ => ⟨S16x4x2048, .f32⟩
  | .hbm, ⟨71, _⟩ => ⟨S16x4x2048x1, .f32⟩
  | .hbm, ⟨72, _⟩ => ⟨S16x4x2048x2064, .f32⟩
  | .hbm, ⟨73, _⟩ => ⟨S16x4x2048x2064, .f32⟩
  | .hbm, ⟨74, _⟩ => ⟨S16x4x2048x128, .f32⟩
  | .hbm, ⟨75, _⟩ => ⟨S16x2048x4x128, .f32⟩
  | .hbm, ⟨76, _⟩ => ⟨S16x2048x512, .f32⟩
  | .hbm, ⟨77, _⟩ => ⟨S16x2048x512, .bf16⟩
  | _, _ => ⟨S16x2048x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_1 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v21 : Ref sig .tc := ⟨.hbm, 59, rfl⟩
abbrev main_cst_2 : Ref sig .tc := ⟨.hbm, 60, rfl⟩
abbrev main_v22 : Ref sig .tc := ⟨.hbm, 61, rfl⟩
abbrev main_cst_3 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_4 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩

abbrev nD : Nat := 1
abbrev τ : Topo := Topo.v7x

variable {F : FTy → Type} [FloatOps F]
-- ==== Back.lean ====
abbrev S16x2048x1024 : Shape := ⟨3, ![16, 2048, 1024]⟩
abbrev S16x2048x512 : Shape := ⟨3, ![16, 2048, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512 : Shape := ⟨1, ![512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S512x2816 : Shape := ⟨2, ![512, 2816]⟩
abbrev S512x1024 : Shape := ⟨2, ![512, 1024]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩

abbrev nBuf : Space → Nat
  | .hbm => 33
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S1x512, .f32⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1x1024, .f32⟩
  | .hbm, ⟨12, _⟩ => ⟨S512, .f32⟩
  | .hbm, ⟨13, _⟩ => ⟨S1x512, .f32⟩
  | .hbm, ⟨14, _⟩ => ⟨S512, .f32⟩
  | .hbm, ⟨15, _⟩ => ⟨S1x512, .f32⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024x2816, .f32⟩
  | .hbm, ⟨21, _⟩ => ⟨S1024x2816, .bf16⟩
  | .hbm, ⟨22, _⟩ => ⟨S1024x2816, .f32⟩
  | .hbm, ⟨23, _⟩ => ⟨S1024x2816, .bf16⟩
  | .hbm, ⟨24, _⟩ => ⟨S2816x1024, .f32⟩
  | .hbm, ⟨25, _⟩ => ⟨S2816x1024, .bf16⟩
  | .hbm, ⟨26, _⟩ => ⟨S1024, .f32⟩
  | .hbm, ⟨27, _⟩ => ⟨S1x1024, .f32⟩
  | .hbm, ⟨28, _⟩ => ⟨S16x2048x1024, .bf16⟩
  | .hbm, ⟨29, _⟩ => ⟨S16x2048x512, .bf16⟩
  | .hbm, ⟨30, _⟩ => ⟨S16x2048x512, .bf16⟩
  | .hbm, ⟨31, _⟩ => ⟨S16x2048x512, .bf16⟩
  | .hbm, ⟨32, _⟩ => ⟨S16x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x2816, .bf16⟩
  | .local _ .vmem, ⟨19, _⟩ => ⟨S512x1024, .bf16⟩
  | .local _ .vmem, ⟨20, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== BackReferenceIdeal.lean ====
abbrev S16x2048x1024 : Shape := ⟨3, ![16, 2048, 1024]⟩
abbrev S16x2048x512 : Shape := ⟨3, ![16, 2048, 512]⟩
abbrev S1x512 : Shape := ⟨2, ![1, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512 : Shape := ⟨1, ![512]⟩
abbrev S_ : Shape := ⟨0, ![]⟩
abbrev S16x2048 : Shape := ⟨2, ![16, 2048]⟩
abbrev S16x2048x1 : Shape := ⟨3, ![16, 2048, 1]⟩
abbrev S1x1x512 : Shape := ⟨3, ![1, 1, 512]⟩
abbrev S1024x1024 : Shape := ⟨2, ![1024, 1024]⟩
abbrev S1024 : Shape := ⟨1, ![1024]⟩
abbrev S1x1x1024 : Shape := ⟨3, ![1, 1, 1024]⟩
abbrev S1024x2816 : Shape := ⟨2, ![1024, 2816]⟩
abbrev S16x2048x2816 : Shape := ⟨3, ![16, 2048, 2816]⟩
abbrev S2816x1024 : Shape := ⟨2, ![2816, 1024]⟩

abbrev nBuf : Space → Nat
  | .hbm => 105
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S1x512, .f32⟩
  | .hbm, ⟨5, _⟩ => ⟨S1x512, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1x1024, .f32⟩
  | .hbm, ⟨12, _⟩ => ⟨S16x2048x512, .f32⟩
  | .hbm, ⟨13, _⟩ => ⟨S512, .f32⟩
  | .hbm, ⟨14, _⟩ => ⟨S16x2048x512, .f32⟩
  | .hbm, ⟨15, _⟩ => ⟨S_, .f32⟩
  | .hbm, ⟨16, _⟩ => ⟨S16x2048, .f32⟩
  | .hbm, ⟨17, _⟩ => ⟨S16x2048x1, .f32⟩
  | .hbm, ⟨18, _⟩ => ⟨S_, .f32⟩
  | .hbm, ⟨19, _⟩ => ⟨S16x2048x1, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S16x2048x1, .f32⟩
  | .hbm, ⟨25, _⟩ => ⟨S16x2048x512, .f32⟩
  | .hbm, ⟨26, _⟩ => ⟨S16x2048x512, .f32⟩
  | .hbm, ⟨27, _⟩ => ⟨S1x1x512, .f32⟩
  | .hbm, ⟨28, _⟩ => ⟨S16x2048x512, .f32⟩
  | .hbm, ⟨29, _⟩ => ⟨S16x2048x512, .f32⟩
  | .hbm, ⟨30, _⟩ => ⟨S512, .f32⟩
  | .hbm, ⟨31, _⟩ => ⟨S16x2048x512, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x512, .f32⟩
  | .hbm, ⟨43, _⟩ => ⟨S16x2048x512, .f32⟩
  | .hbm, ⟨44, _⟩ => ⟨S1x1x512, .f32⟩
  | .hbm, ⟨45, _⟩ => ⟨S16x2048x512, .f32⟩
  | .hbm, ⟨46, _⟩ => ⟨S16x2048x512, .f32⟩
  | .hbm, ⟨47, _⟩ => ⟨S16x2048x1024, .f32⟩
  | .hbm, ⟨48, _⟩ => ⟨S1024x1024, .f32⟩
  | .hbm, ⟨49, _⟩ => ⟨S16x2048x1024, .f32⟩
  | .hbm, ⟨50, _⟩ => ⟨S16x2048x1024, .f32⟩
  | .hbm, ⟨51, _⟩ => ⟨S1024, .f32⟩
  | .hbm, ⟨52, _⟩ => ⟨S16x2048x1024, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S16x2048x1, .f32⟩
  | .hbm, ⟨63, _⟩ => ⟨S16x2048x1024, .f32⟩
  | .hbm, ⟨64, _⟩ => ⟨S16x2048x1024, .f32⟩
  | .hbm, ⟨65, _⟩ => ⟨S1x1x1024, .f32⟩
  | .hbm, ⟨66, _⟩ => ⟨S16x2048x1024, .f32⟩
  | .hbm, ⟨67, _⟩ => ⟨S16x2048x1024, .f32⟩
  | .hbm, ⟨68, _⟩ => ⟨S1024x2816, .f32⟩
  | .hbm, ⟨69, _⟩ => ⟨S16x2048x2816, .f32⟩
  | .hbm, ⟨70, _⟩ => ⟨S16x2048x2816, .f32⟩
  | .hbm, ⟨71, _⟩ => ⟨S16x2048x2816, .f32⟩
  | .hbm, ⟨72, _⟩ => ⟨S_, .f32⟩
  | .hbm, ⟨73, _⟩ => ⟨S16x2048x2816, .f32⟩
  | .hbm, ⟨74, _⟩ => ⟨S16x2048x2816, .f32⟩
  | .hbm, ⟨75, _⟩ => ⟨S_, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S1024x2816, .f32⟩
  | .hbm, ⟨80, _⟩ => ⟨S16x2048x2816, .f32⟩
  | .hbm, ⟨81, _⟩ => ⟨S16x2048x2816, .f32⟩
  | .hbm, ⟨82, _⟩ => ⟨S2816x1024, .f32⟩
  | .hbm, ⟨83, _⟩ => ⟨S16x2048x1024, .f32⟩
  | .hbm, ⟨84, _⟩ => ⟨S_, .f32⟩
  | .hbm, ⟨85, _⟩ => ⟨S16x2048x1024, .f32⟩
  | .hbm, ⟨86, _⟩ => ⟨S16x2048x1024, .f32⟩
  | .hbm, ⟨87, _⟩ => ⟨S16x2048x1024, .f32⟩
  | .hbm, ⟨88, _⟩ => ⟨S1024, .f32⟩
  | .hbm, ⟨89, _⟩ => ⟨S16x2048x1024, .f32⟩
  | .hbm, ⟨90, _⟩ => ⟨S_, .f32⟩
  | .hbm, ⟨91, _⟩ => ⟨S16x2048, .f32⟩
  | .hbm, ⟨92, _⟩ => ⟨S16x2048x1, .f32⟩
  | .hbm, ⟨93, _⟩ => ⟨S_, .f32⟩
  | .hbm, ⟨94, _⟩ => ⟨S16x2048x1, .f32⟩
  | .hbm, ⟨95, _⟩ => ⟨S16x2048x1, .f32⟩
  | .hbm, ⟨96, _⟩ => ⟨S_, .f32⟩
  | .hbm, ⟨97, _⟩ => ⟨S16x2048x1, .f32⟩
  | .hbm, ⟨98, _⟩ => ⟨S16x2048x1, .f32⟩
  | .hbm, ⟨99, _⟩ => ⟨S16x2048x1, .f32⟩
  | .hbm, ⟨100, _⟩ => ⟨S16x2048x1024, .f32⟩
  | .hbm, ⟨101, _⟩ => ⟨S16x2048x1024, .f32⟩
  | .hbm, ⟨102, _⟩ => ⟨S1x1x1024, .f32⟩
  | .hbm, ⟨103, _⟩ => ⟨S16x2048x1024, .f32⟩
  | .hbm, ⟨104, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_8 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_9 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩

abbrev nD : Nat := 1
abbrev τ : Topo := Topo.v7x

variable {F : FTy → Type} [FloatOps F]
-- ==== Front.lean ====
abbrev S16x2048x1024 : Shape := ⟨3, ![16, 2048, 1024]⟩
abbrev S3x2048x128 : Shape := ⟨3, ![3, 2048, 128]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1728 : Shape := ⟨3, ![1, 1024, 1728]⟩
abbrev S1x384 : Shape := ⟨2, ![1, 384]⟩
abbrev S1x384x768 : Shape := ⟨3, ![1, 384, 768]⟩
abbrev S1x256 : Shape := ⟨2, ![1, 256]⟩
abbrev S1x256x512 : Shape := ⟨3, ![1, 256, 512]⟩
abbrev S1x192 : Shape := ⟨2, ![1, 192]⟩
abbrev S384x768 : Shape := ⟨2, ![384, 768]⟩
abbrev S384x4x192 : Shape := ⟨3, ![384, 4, 192]⟩
abbrev S_ : Shape := ⟨0, ![]⟩
abbrev S384x4x256 : Shape := ⟨3, ![384, 4, 256]⟩
abbrev S384x1024 : Shape := ⟨2, ![384, 1024]⟩
abbrev S1024 : Shape := ⟨1, ![1024]⟩
abbrev S1024x2816 : Shape := ⟨2, ![1024, 2816]⟩
abbrev S2816x1024 : Shape := ⟨2, ![2816, 1024]⟩
abbrev S1024x1728 : Shape := ⟨2, ![1024, 1728]⟩
abbrev S384 : Shape := ⟨1, ![384]⟩
abbrev S256 : Shape := ⟨1, ![256]⟩
abbrev S256x512 : Shape := ⟨2, ![256, 512]⟩
abbrev S192 : Shape := ⟨1, ![192]⟩
abbrev S16x4x2048x256 : Shape := ⟨4, ![16, 4, 2048, 256]⟩
abbrev S16x2048x512 : Shape := ⟨3, ![16, 2048, 512]⟩
abbrev S1x512x1024 : Shape := ⟨3, ![1, 512, 1024]⟩
abbrev S3x512x128 : Shape := ⟨3, ![3, 512, 128]⟩
abbrev S16x2816 : Shape := ⟨2, ![16, 2816]⟩
abbrev S64x1024 : Shape := ⟨2, ![64, 1024]⟩
abbrev S1x4x512x256 : Shape := ⟨4, ![1, 4, 512, 256]⟩
abbrev S1x512x512 : Shape := ⟨3, ![1, 512, 512]⟩
abbrev S512x2816 : Shape := ⟨2, ![512, 2816]⟩
abbrev S512x1024 : Shape := ⟨2, ![512, 1024]⟩
abbrev S512x1728 : Shape := ⟨2, ![512, 1728]⟩
abbrev S512x128 : Shape := ⟨2, ![512, 128]⟩
abbrev S512x384 : Shape := ⟨2, ![512, 384]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S1x512x128 : Shape := ⟨3, ![1, 512, 128]⟩
abbrev S1x128 : Shape := ⟨2, ![1, 128]⟩
abbrev S1x1x512x256 : Shape := ⟨4, ![1, 1, 512, 256]⟩
abbrev S256x2816 : Shape := ⟨2, ![256, 2816]⟩
abbrev S256x1024 : Shape := ⟨2, ![256, 1024]⟩
abbrev S1x256x1024 : Shape := ⟨3, ![1, 256, 1024]⟩
abbrev S256x1 : Shape := ⟨2, ![256, 1]⟩

abbrev nBuf : Space → Nat
  | .hbm => 67
  | .vmem => 43
  | .smem => 0
  | _ => 0

abbrev bufTy : (tb : Table) → Fin (tcTables nBuf tb) → BufTy
  | .hbm, ⟨0, _⟩ => ⟨S16x2048x1024, .f32⟩
  | .hbm, ⟨1, _⟩ => ⟨S3x2048x128, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1x1024x1728, .f32⟩
  | .hbm, ⟨8, _⟩ => ⟨S1x384, .f32⟩
  | .hbm, ⟨9, _⟩ => ⟨S1x384x768, .f32⟩
  | .hbm, ⟨10, _⟩ => ⟨S1x256, .f32⟩
  | .hbm, ⟨11, _⟩ => ⟨S1x256x512, .f32⟩
  | .hbm, ⟨12, _⟩ => ⟨S1x256x512, .f32⟩
  | .hbm, ⟨13, _⟩ => ⟨S1x192, .f32⟩
  | .hbm, ⟨14, _⟩ => ⟨S1x192, .f32⟩
  | .hbm, ⟨15, _⟩ => ⟨S1x1024x2816, .f32⟩
  | .hbm, ⟨16, _⟩ => ⟨S1x1024x2816, .f32⟩
  | .hbm, ⟨17, _⟩ => ⟨S1x2816x1024, .f32⟩
  | .hbm, ⟨18, _⟩ => ⟨S384x768, .f32⟩
  | .hbm, ⟨19, _⟩ => ⟨S384x4x192, .f32⟩
  | .hbm, ⟨20, _⟩ => ⟨S_, .i32⟩
  | .hbm, ⟨21, _⟩ => ⟨S_, .f32⟩
  | .hbm, ⟨22, _⟩ => ⟨S384x4x256, .f32⟩
  | .hbm, ⟨23, _⟩ => ⟨S384x1024, .f32⟩
  | .hbm, ⟨24, _⟩ => ⟨S1024, .f32⟩
  | .hbm, ⟨25, _⟩ => ⟨S1x1024, .f32⟩
  | .hbm, ⟨26, _⟩ => ⟨S1024x2816, .f32⟩
  | .hbm, ⟨27, _⟩ => ⟨S1024x2816, .bf16⟩
  | .hbm, ⟨28, _⟩ => ⟨S1024x2816, .f32⟩
  | .hbm, ⟨29, _⟩ => ⟨S1024x2816, .bf16⟩
  | .hbm, ⟨30, _⟩ => ⟨S2816x1024, .f32⟩
  | .hbm, ⟨31, _⟩ => ⟨S2816x1024, .bf16⟩
  | .hbm, ⟨32, _⟩ => ⟨S1024, .f32⟩
  | .hbm, ⟨33, _⟩ => ⟨S1x1024, .f32⟩
  | .hbm, ⟨34, _⟩ => ⟨S1024x1728, .f32⟩
  | .hbm, ⟨35, _⟩ => ⟨S1024x1728, .bf16⟩
  | .hbm, ⟨36, _⟩ => ⟨S384, .f32⟩
  | .hbm, ⟨37, _⟩ => ⟨S1x384, .f32⟩
  | .hbm, ⟨38, _⟩ => ⟨S384x1024, .bf16⟩
  | .hbm, ⟨39, _⟩ => ⟨S256, .f32⟩
  | .hbm, ⟨40, _⟩ => ⟨S1x256, .f32⟩
  | .hbm, ⟨41, _⟩ => ⟨S256x512, .f32⟩
  | .hbm, ⟨42, _⟩ => ⟨S256x512, .bf16⟩
  | .hbm, ⟨43, _⟩ => ⟨S256x512, .f32⟩
  | .hbm, ⟨44, _⟩ => ⟨S256x512, .bf16⟩
  | .hbm, ⟨45, _⟩ => ⟨S192, .f32⟩
  | .hbm, ⟨46, _⟩ => ⟨S_, .i32⟩
  | .hbm, ⟨47, _⟩ => ⟨S_, .f32⟩
  | .hbm, ⟨48, _⟩ => ⟨S256, .f32⟩
  | .hbm, ⟨49, _⟩ => ⟨S1x256, .f32⟩
  | .hbm, ⟨50, _⟩ => ⟨S192, .f32⟩
  | .hbm, ⟨51, _⟩ => ⟨S_, .i32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S1024x2816, .f32⟩
  | .hbm, ⟨56, _⟩ => ⟨S1024x2816, .f32⟩
  | .hbm, ⟨57, _⟩ => ⟨S2816x1024, .f32⟩
  | .hbm, ⟨58, _⟩ => ⟨S16x2048x1024, .bf16⟩
  | .hbm, ⟨59, _⟩ => ⟨S16x4x2048x256, .bf16⟩
  | .hbm, ⟨60, _⟩ => ⟨S16x4x2048x256, .bf16⟩
  | .hbm, ⟨61, _⟩ => ⟨S16x2048x512, .bf16⟩
  | .hbm, ⟨62, _⟩ => ⟨S16x2048x512, .bf16⟩
  | .hbm, ⟨63, _⟩ => ⟨S16x2048x512, .bf16⟩
  | .hbm, ⟨64, _⟩ => ⟨S1024x2816, .bf16⟩
  | .hbm, ⟨65, _⟩ => ⟨S1024x2816, .bf16⟩
  | .hbm, ⟨66, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S3x512x128, .f32⟩
  | .local _ .vmem, ⟨3, _⟩ => ⟨S3x512x128, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1728, .bf16⟩
  | .local _ .vmem, ⟨10, _⟩ => ⟨S1x384, .f32⟩
  | .local _ .vmem, ⟨11, _⟩ => ⟨S384x1024, .bf16⟩
  | .local _ .vmem, ⟨12, _⟩ => ⟨S1x256, .f32⟩
  | .local _ .vmem, ⟨13, _⟩ => ⟨S256x512, .bf16⟩
  | .local _ .vmem, ⟨14, _⟩ => ⟨S256x512, .bf16⟩
  | .local _ .vmem, ⟨15, _⟩ => ⟨S1x256, .f32⟩
  | .local _ .vmem, ⟨16, _⟩ => ⟨S1x256, .f32⟩
  | .local _ .vmem, ⟨17, _⟩ => ⟨S16x2816, .f32⟩
  | .local _ .vmem, ⟨18, _⟩ => ⟨S16x2816, .f32⟩
  | .local _ .vmem, ⟨19, _⟩ => ⟨S16x2816, .f32⟩
  | .local _ .vmem, ⟨20, _⟩ => ⟨S16x2816, .f32⟩
  | .local _ .vmem, ⟨21, _⟩ => ⟨S64x1024, .f32⟩
  | .local _ .vmem, ⟨22, _⟩ => ⟨S64x1024, .f32⟩
  | .local _ .vmem, ⟨23, _⟩ => ⟨S1x512x1024, .bf16⟩
  | .local _ .vmem, ⟨24, _⟩ => ⟨S1x512x1024, .bf16⟩
  | .local _ .vmem, ⟨25, _⟩ => ⟨S1x4x512x256, .bf16⟩
  | .local _ .vmem, ⟨26, _⟩ => ⟨S1x4x512x256, .bf16⟩
  | .local _ .vmem, ⟨27, _⟩ => ⟨S1x4x512x256, .bf16⟩
  | .local _ .vmem, ⟨28, _⟩ => ⟨S1x4x512x256, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x512, .bf16⟩
  | .local _ .vmem, ⟨33, _⟩ => ⟨S1x512x512, .bf16⟩
  | .local _ .vmem, ⟨34, _⟩ => ⟨S1x512x512, .bf16⟩
  | .local _ .vmem, ⟨35, _⟩ => ⟨S16x2816, .bf16⟩
  | .local _ .vmem, ⟨36, _⟩ => ⟨S16x2816, .bf16⟩
  | .local _ .vmem, ⟨37, _⟩ => ⟨S16x2816, .bf16⟩
  | .local _ .vmem, ⟨38, _⟩ => ⟨S16x2816, .bf16⟩
  | .local _ .vmem, ⟨39, _⟩ => ⟨S64x1024, .bf16⟩
  | .local _ .vmem, ⟨40, _⟩ => ⟨S64x1024, .bf16⟩
  | .local _ .vmem, ⟨41, _⟩ => ⟨S512x2816, .bf16⟩
  | .local _ .vmem, ⟨42, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_call0_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_0 : Ref sig .tc := ⟨.hbm, 46, rfl⟩
abbrev main_call1_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_1 : Ref sig .tc := ⟨.hbm, 51, rfl⟩
abbrev main_call2_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev main_v34_3 : Ref sig .tc := ⟨.hbm, 61, rfl⟩
abbrev main_v34_4 : Ref sig .tc := ⟨.hbm, 62, rfl⟩
abbrev main_v34_5 : Ref sig .tc := ⟨.hbm, 63, rfl⟩
abbrev main_v34_6 : Ref sig .tc := ⟨.hbm, 64, rfl⟩
abbrev main_v34_7 : Ref sig .tc := ⟨.hbm, 65, rfl⟩
abbrev main_v34_8 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg25_1 : Ref sig .tc := ⟨.vmem, 38, rfl⟩
abbrev cc0_stg26_0 : Ref sig .tc := ⟨.vmem, 39, rfl⟩
abbrev cc0_stg26_1 : Ref sig .tc := ⟨.vmem, 40, rfl⟩
abbrev cc0_scratch0 : Ref sig .tc := ⟨.vmem, 41, rfl⟩
abbrev cc0_scratch1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36
abbrev cc0_sem25_0 : DmaSem sig := 37
abbrev cc0_sem25_1 : DmaSem sig := 38
abbrev cc0_sem26_0 : DmaSem sig := 39
abbrev cc0_sem26_1 : DmaSem sig := 40

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  let v2 : BitVec 1 := Scalar.cmpi .eq c4_i32 c0_i32_0
  let c1_i32_1 : BitVec 32 := 1#32
  let v3 : BitVec 32 := Scalar.select v2 c1_i32_1 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![c0_i32_5.toNat, v11.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

def cc0_transform_18 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_19 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_20 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_21 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_22 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_23 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_24 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_25 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_26 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1728 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S16x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x2816 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x4x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x4x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S16x2816 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S16x2816 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S64x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== FrontReferenceIdeal.lean ====
abbrev S16x2048x1024 : Shape := ⟨3, ![16, 2048, 1024]⟩
abbrev S3x2048x128 : Shape := ⟨3, ![3, 2048, 128]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x1728 : Shape := ⟨3, ![1, 1024, 1728]⟩
abbrev S1x384 : Shape := ⟨2, ![1, 384]⟩
abbrev S1x384x768 : Shape := ⟨3, ![1, 384, 768]⟩
abbrev S1x256 : Shape := ⟨2, ![1, 256]⟩
abbrev S1x256x512 : Shape := ⟨3, ![1, 256, 512]⟩
abbrev S1x192 : Shape := ⟨2, ![1, 192]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2816 : Shape := ⟨2, ![1024, 2816]⟩
abbrev S16x2048x2816 : Shape := ⟨3, ![16, 2048, 2816]⟩
abbrev S2816x1024 : Shape := ⟨2, ![2816, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S3x2048x128, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1x1024x1728, .f32⟩
  | .hbm, ⟨8, _⟩ => ⟨S1x384, .f32⟩
  | .hbm, ⟨9, _⟩ => ⟨S1x384x768, .f32⟩
  | .hbm, ⟨10, _⟩ => ⟨S1x256, .f32⟩
  | .hbm, ⟨11, _⟩ => ⟨S1x256x512, .f32⟩
  | .hbm, ⟨12, _⟩ => ⟨S1x256x512, .f32⟩
  | .hbm, ⟨13, _⟩ => ⟨S1x192, .f32⟩
  | .hbm, ⟨14, _⟩ => ⟨S1x192, .f32⟩
  | .hbm, ⟨15, _⟩ => ⟨S1x1024x2816, .f32⟩
  | .hbm, ⟨16, _⟩ => ⟨S1x1024x2816, .f32⟩
  | .hbm, ⟨17, _⟩ => ⟨S1x2816x1024, .f32⟩
  | .hbm, ⟨18, _⟩ => ⟨S1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S1024x2816, .f32⟩
  | .hbm, ⟨36, _⟩ => ⟨S16x2048x2816, .f32⟩
  | .hbm, ⟨37, _⟩ => ⟨S16x2048x2816, .f32⟩
  | .hbm, ⟨38, _⟩ => ⟨S16x2048x2816, .f32⟩
  | .hbm, ⟨39, _⟩ => ⟨S_, .f32⟩
  | .hbm, ⟨40, _⟩ => ⟨S16x2048x2816, .f32⟩
  | .hbm, ⟨41, _⟩ => ⟨S16x2048x2816, .f32⟩
  | .hbm, ⟨42, _⟩ => ⟨S_, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S1024x2816, .f32⟩
  | .hbm, ⟨47, _⟩ => ⟨S16x2048x2816, .f32⟩
  | .hbm, ⟨48, _⟩ => ⟨S16x2048x2816, .f32⟩
  | .hbm, ⟨49, _⟩ => ⟨S2816x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S16x2048x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩

abbrev nD : Nat := 1
abbrev τ : Topo := Topo.v7x

variable {F : FTy → Type} [FloatOps F]
-- ==== Proof.AttnSpec.lean ====
/- The attention call: a row of a block's result as the body computes it, and the same row as a weighted mean. -/
module

public import Idealize.ShloMosaic.Lib.Pipeline.ValueKit

@[expose] public section

noncomputable section

namespace Cert.AttnSpec

open Idealize.ShloMosaic Finset

/-- How many keys the query of frame `i` sees: the meta tokens and every chunk up to its own. -/
def vis (i : ℕ) : ℕ := 64 * (i / 64) + 80

/-- A score: the product of a query and a key. -/
def dot {n : ℕ} (q k : Fin n → EReal) : EReal := ∑ d, q d * k d

/-- The larger of the two largest scores. -/
def top {C : ℕ} (sl : Fin 256 → EReal) (sp : Fin C → EReal) : EReal := max (univ.fold max ⊥ sl) (univ.fold max ⊥ sp)

/-- The unnormalised sum of a row over the last 256 keys and the `C` keys before them. -/
def acc {C : ℕ} (sl : Fin 256 → EReal) (sp : Fin C → EReal) (vl : Fin 256 → EReal) (vp : Fin C → EReal) : EReal :=
  (∑ j, Ideal.exp2 (sl j - top sl sp) * vl j) + ∑ j, Ideal.exp2 (sp j - top sl sp) * vp j

/-- An entry of a row: the sum with the values over the sum with the ones. -/
def row {C : ℕ} (sl : Fin 256 → EReal) (sp : Fin C → EReal) (vl ol : Fin 256 → EReal) (vp op : Fin C → EReal) : EReal :=
  Ideal.div (acc sl sp vl vp) (acc sl sp ol op)

/-- The sum over the first 256 keys alone. -/
def acc0 (sl vl : Fin 256 → EReal) : EReal := ∑ j, Ideal.exp2 (sl j - univ.fold max ⊥ sl) * vl j

/-- An entry of a row that has no keys before the last 256. -/
def row0 (sl vl ol : Fin 256 → EReal) : EReal := Ideal.div (acc0 sl vl) (acc0 sl ol)

theorem row0_eq (sl vl ol : Fin 256 → EReal) : row0 sl vl ol = row (C := 0) sl Fin.elim0 vl ol Fin.elim0 Fin.elim0 := by
  have e : top (C := 0) sl Fin.elim0 = univ.fold max ⊥ sl := by
    unfold top
    simp
  unfold row0 row acc0 acc
  simp [e]

/-- The weighted mean of the first `n` values with the positive weights `a`. -/
def att (n : ℕ) (a : ℕ → ℝ) (V : ℕ → EReal) : EReal := ∑ p ∈ range n, ((a p / ∑ p' ∈ range n, a p' : ℝ) : EReal) * V p

/-- A common factor of the weights does not count. -/
theorem att_scale (n : ℕ) (a b : ℕ → ℝ) (V : ℕ → EReal) (c : ℝ) (hc : c ≠ 0) (h : ∀ p < n, b p = a p * c) : att n b V = att n a V := by
  unfold att
  have e : ∑ p ∈ range n, b p = (∑ p ∈ range n, a p) * c := by
    rw [Finset.sum_mul]
    exact Finset.sum_congr rfl fun p hp => h p (Finset.mem_range.mp hp)
  refine Finset.sum_congr rfl fun p hp => ?_
  rw [h p (Finset.mem_range.mp hp), e, mul_div_mul_right _ _ hc]

/-- The weights of `n` visible keys among `N`. -/
def ind (n : ℕ) (a : ℕ → ℝ) (p : ℕ) : ℝ := if p < n then a p else 0

theorem coe_sum (s : Finset ℕ) (f : ℕ → ℝ) : ∑ p ∈ s, (f p : EReal) = ((∑ p ∈ s, f p : ℝ) : EReal) := by
  induction s using Finset.cons_induction with
  | empty => simp
  | cons a s h ih => rw [Finset.sum_cons, Finset.sum_cons, ih, EReal.coe_add]

theorem sum_mul_coe (s : Finset ℕ) (f : ℕ → EReal) (c : ℝ) (hc : 0 ≤ c) : (∑ p ∈ s, f p) * (c : EReal) = ∑ p ∈ s, f p * (c : EReal) := by
  induction s using Finset.cons_induction with
  | empty => simp
  | cons a s h ih =>
    rw [Finset.sum_cons, Finset.sum_cons, ← ih]
    exact EReal.right_distrib_of_nonneg_of_ne_top (by exact_mod_cast hc) (EReal.coe_ne_top c) _ _

theorem sum_ind (N n : ℕ) (hn : n ≤ N) (a : ℕ → ℝ) : ∑ p ∈ range N, ind n a p = ∑ p ∈ range n, a p := by
  rw [← Finset.sum_subset (Finset.range_subset_range.mpr hn)]
  · exact Finset.sum_congr rfl fun p hp => if_pos (Finset.mem_range.mp hp)
  · intro p _ hp
    exact if_neg fun h => hp (Finset.mem_range.mpr h)

theorem sum_weights (N n : ℕ) (hn : n ≤ N) (a : ℕ → ℝ) (V : ℕ → EReal) (W : ℝ) :
    ∑ p ∈ range N, ((ind n a p / W : ℝ) : EReal) * V p = ∑ p ∈ range n, ((a p / W : ℝ) : EReal) * V p := by
  rw [← Finset.sum_subset (Finset.range_subset_range.mpr hn)]
  · exact Finset.sum_congr rfl fun p hp => by rw [ind, if_pos (Finset.mem_range.mp hp)]
  · intro p _ hp
    rw [ind, if_neg fun h => hp (Finset.mem_range.mpr h)]
    simp

/-- The sums divided once, after them. -/
theorem mean_after (N n : ℕ) (hn : n ≤ N) (h0 : 0 < n) (a : ℕ → ℝ) (ha : ∀ p < n, 0 < a p) (V : ℕ → EReal) :
    Ideal.div (∑ p ∈ range N, (ind n a p : EReal) * V p) (∑ p ∈ range N, (ind n a p : EReal)) = att n a V := by
  have hW : 0 < ∑ p ∈ range n, a p := Finset.sum_pos (fun p hp => ha p (Finset.mem_range.mp hp)) ⟨0, Finset.mem_range.mpr h0⟩
  rw [coe_sum, sum_ind N n hn, Ideal.div_coe hW.ne', sum_mul_coe _ _ _ (by positivity)]
  unfold att
  rw [← sum_weights N n hn]
  refine Finset.sum_congr rfl fun p _ => ?_
  rw [mul_right_comm, ← EReal.coe_mul, mul_one_div]

/-- Every weight divided before the sum. -/
theorem mean_before (N n : ℕ) (hn : n ≤ N) (h0 : 0 < n) (a : ℕ → ℝ) (ha : ∀ p < n, 0 < a p) (V : ℕ → EReal) :
    ∑ p ∈ range N, Ideal.div (ind n a p : EReal) (∑ p ∈ range N, (ind n a p : EReal)) * V p = att n a V := by
  have hW : 0 < ∑ p ∈ range n, a p := Finset.sum_pos (fun p hp => ha p (Finset.mem_range.mp hp)) ⟨0, Finset.mem_range.mpr h0⟩
  rw [coe_sum, sum_ind N n hn]
  unfold att
  rw [← sum_weights N n hn]
  refine Finset.sum_congr rfl fun p _ => ?_
  rw [Ideal.div_coe hW.ne', ← EReal.coe_mul, mul_one_div]

/-- The scores of `n` visible keys; every other key is masked. -/
def masked (n : ℕ) (s : ℕ → ℝ) (p : ℕ) : EReal := if p < n then (s p : EReal) else ⊥

theorem fold_max_ne_top {ι : Type*} (t : Finset ι) (f : ι → EReal) (h : ∀ i ∈ t, f i ≠ ⊤) : t.fold max ⊥ f ≠ ⊤ := by
  refine ne_of_lt ((Finset.fold_max_lt ⊤).mpr ⟨bot_lt_top, fun i hi => lt_top_iff_ne_top.mpr (h i hi)⟩)

theorem masked_ne_top (n : ℕ) (s : ℕ → ℝ) (p : ℕ) : masked n s p ≠ ⊤ := by
  unfold masked
  split
  · exact EReal.coe_ne_top _
  · exact bot_ne_top

theorem le_fold_max {ι : Type*} (t : Finset ι) (f : ι → EReal) (i : ι) (hi : i ∈ t) : f i ≤ t.fold max ⊥ f :=
  (Finset.le_fold_max _).mpr (Or.inr ⟨i, hi, le_rfl⟩)

theorem coe_of_ne {x : EReal} (h : x ≠ ⊤) (h' : x ≠ ⊥) : ∃ r : ℝ, x = r := ⟨x.toReal, (EReal.coe_toReal h h').symm⟩

theorem exp2_masked (n : ℕ) (s : ℕ → ℝ) (μ : ℝ) (p : ℕ) :
    Ideal.exp2 (masked n s p - (μ : EReal)) = (ind n (fun p => Real.rpow 2 (s p - μ)) p : EReal) := by
  unfold masked ind
  split
  · rw [← EReal.coe_sub, Ideal.exp2_coe]
  · simp

theorem exp_masked (n : ℕ) (s : ℕ → ℝ) (μ : ℝ) (p : ℕ) :
    Ideal.exp (masked n s p - (μ : EReal)) = (ind n (fun p => Real.exp (s p - μ)) p : EReal) := by
  unfold masked ind
  split
  · rw [← EReal.coe_sub, Ideal.exp_coe]
  · simp

/-- An entry of a row, over scores of which the first `n` are seen, is the weighted mean with the weights `2 ^ s`. -/
theorem row_eq (C n : ℕ) (hC : C < n) (hn : n ≤ C + 256) (s : ℕ → ℝ) (V : ℕ → EReal) (sl vl ol : Fin 256 → EReal) (sp vp op : Fin C → EReal)
    (hsl : ∀ j : Fin 256, sl j = masked n s (C + j.val)) (hsp : ∀ j : Fin C, sp j = masked n s j.val)
    (hvl : ∀ j : Fin 256, vl j = V (C + j.val)) (hvp : ∀ j : Fin C, vp j = V j.val)
    (hol : ∀ j, ol j = 1) (hop : ∀ j, op j = 1) : row sl sp vl ol vp op = att n (fun p => Real.rpow 2 (s p)) V := by
  obtain ⟨μ, hμ⟩ : ∃ μ : ℝ, top sl sp = μ := by
    refine coe_of_ne ?_ ?_
    · unfold top
      refine ne_of_lt (max_lt (lt_top_iff_ne_top.mpr (fold_max_ne_top _ _ fun j _ => ?_)) (lt_top_iff_ne_top.mpr (fold_max_ne_top _ _ fun j _ => ?_)))
      · rw [hsl]; exact masked_ne_top _ _ _
      · rw [hsp]; exact masked_ne_top _ _ _
    · refine ne_of_gt (lt_of_lt_of_le (EReal.bot_lt_coe (s C)) ((le_of_eq ?_).trans ((le_fold_max univ sl ⟨0, by omega⟩ (mem_univ _)).trans (le_max_left _ _))))
      rw [hsl]
      unfold masked
      rw [if_pos (by simpa using hC)]
      rfl
  have key : ∀ (ul : Fin 256 → EReal) (up : Fin C → EReal) (U : ℕ → EReal), (∀ j : Fin 256, ul j = U (C + j.val)) → (∀ j : Fin C, up j = U j.val) →
      acc sl sp ul up = ∑ p ∈ range (C + 256), (ind n (fun p => Real.rpow 2 (s p - μ)) p : EReal) * U p := by
    intro ul up U hl hp
    unfold acc
    simp only [hμ, hsl, hsp, hl, hp, exp2_masked]
    rw [Finset.sum_range_add, add_comm]
    congr 1
    · exact Fin.sum_univ_eq_sum_range (fun p => (ind n (fun p => Real.rpow 2 (s p - μ)) p : EReal) * U p) C
  unfold row
  rw [key vl vp V hvl hvp, key ol op (fun _ => 1) hol hop]
  simp only [mul_one]
  rw [mean_after _ _ hn (by omega) (fun p => Real.rpow 2 (s p - μ)) (fun p _ => Real.rpow_pos_of_pos two_pos _)]
  refine att_scale _ _ _ _ (Real.rpow 2 (-μ)) (Real.rpow_pos_of_pos two_pos _).ne' fun p _ => ?_
  rw [sub_eq_add_neg]
  exact Real.rpow_add two_pos _ _

/-- The reference's softmax and product, over scores of which the first `n` are seen. -/
theorem softmax_eq (N n : ℕ) (hn : n ≤ N) (h0 : 0 < n) (t : ℕ → ℝ) (V : ℕ → EReal) (f v : Fin N → EReal)
    (hf : ∀ p : Fin N, f p = masked n t p.val) (hv : ∀ p : Fin N, v p = V p.val) :
    ∑ p, Ideal.div (Ideal.exp (f p - univ.fold max ⊥ f)) (∑ p, Ideal.exp (f p - univ.fold max ⊥ f)) * v p = att n (fun p => Real.exp (t p)) V := by
  obtain ⟨μ, hμ⟩ : ∃ μ : ℝ, univ.fold max ⊥ f = μ := by
    refine coe_of_ne (fold_max_ne_top _ _ fun p _ => ?_) ?_
    · rw [hf]; exact masked_ne_top _ _ _
    · refine ne_of_gt (lt_of_lt_of_le (EReal.bot_lt_coe (t 0)) ((le_of_eq ?_).trans (le_fold_max univ f ⟨0, by omega⟩ (mem_univ _))))
      rw [hf]
      unfold masked
      rw [if_pos h0]
  simp only [hμ]
  simp only [hf, hv, exp_masked]
  rw [Fin.sum_univ_eq_sum_range (fun p => (ind n (fun p => Real.exp (t p - μ)) p : EReal)) N,
    Fin.sum_univ_eq_sum_range (fun p => Ideal.div (ind n (fun p => Real.exp (t p - μ)) p : EReal)
      (∑ p ∈ range N, (ind n (fun p => Real.exp (t p - μ)) p : EReal)) * V p) N,
    mean_before _ _ hn h0 _ (fun p _ => Real.exp_pos _)]
  refine att_scale _ _ _ _ (Real.exp (-μ)) (Real.exp_pos _).ne' fun p _ => ?_
  rw [sub_eq_add_neg, Real.exp_add]

/-- The two bases: `2` to a score over `log 2` is the exponential of the score. -/
theorem att_base (n : ℕ) (s t : ℕ → ℝ) (V : ℕ → EReal) (h : ∀ p < n, s p = t p / Real.log 2) :
    att n (fun p => Real.rpow 2 (s p)) V = att n (fun p => Real.exp (t p)) V := by
  refine att_scale _ _ _ _ 1 one_ne_zero fun p hp => ?_
  rw [h p hp, mul_one]
  show (2 : ℝ) ^ (t p / Real.log 2) = _
  rw [Real.rpow_def_of_pos two_pos, mul_div_cancel₀ _ (Real.log_pos one_lt_two).ne']

end Cert.AttnSpec

end
-- ==== Proof.AttnPay.lean ====
/- The attention call: what the body stores, entry by entry, over the blocks it reads; the mask and the row. -/
module

public import proofs.«01_k».proof.Proof.AttnSpec
public import proofs.«01_k».proof.Proof.Gen.KernelIdeal.Skeleton

@[expose] public section

set_option maxRecDepth 16384

noncomputable section

namespace Cert.KernelIdeal.Pay

open Idealize.ShloMosaic Idealize.ShloMosaic.TcCoe Idealize.ShloMosaic.Pipeline Cert.KernelIdeal Cert.KernelIdeal.Gen Cert.AttnSpec

/-- The chunk of a frame, as the body computes it: a division towards zero, lowered by one where the signs differ and there is a remainder. -/
def chunk (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem chunk_fin : ∀ x : Fin 2048, chunk (BitVec.ofNat 32 x.val) = BitVec.ofNat 32 (x.val / 64) := by
  decide +kernel

theorem chunk_eq (x : ℕ) (hx : x < 2048) : chunk (BitVec.ofNat 32 x) = BitVec.ofNat 32 (x / 64) := chunk_fin ⟨x, hx⟩

theorem slt_ofNat (a b : ℕ) (ha : a < 4096) (hb : b < 4096) : (BitVec.ofNat 32 a).slt (BitVec.ofNat 32 b) = decide (a < b) := by
  have e : ∀ n < 4096, (BitVec.ofNat 32 n).toInt = (n : ℤ) := fun n hn => by
    rw [BitVec.toInt_eq_toNat_of_lt] <;> rw [BitVec.toNat_ofNat, Nat.mod_eq_of_lt (by omega)]
    omega
  rw [BitVec.slt_eq_decide, e a ha, e b hb]
  simp

/-- The mask, as a number of keys. -/
theorem seen (a x : ℕ) (ha : a < 4096) (hx : x < 2048) :
    IntOp.cmpi .slt (BitVec.ofNat 32 a) (IntOp.addi 16#32 (IntOp.muli 64#32 (IntOp.addi (chunk (BitVec.ofNat 32 x)) 1#32))) = BitVec.ofBool (decide (a < vis x)) := by
  rw [chunk_eq x hx]
  have e : IntOp.addi 16#32 (IntOp.muli 64#32 (IntOp.addi (BitVec.ofNat 32 (x / 64)) 1#32)) = BitVec.ofNat 32 (vis x) := by
    simp only [IntOp.addi, IntOp.muli, vis]
    apply BitVec.eq_of_toNat_eq
    simp
    omega
  rw [e]
  exact congrArg BitVec.ofBool (slt_ofNat a (vis x) ha (by unfold vis; omega))

theorem select_seen (C lo j r : ℕ) (hj : C + j < 4096) (hr : lo + r < 2048) (s : EReal) (b : EReal) (hb : b = ⊥) :
    Scalar.select (IntOp.cmpi .slt (IntOp.addi (BitVec.ofNat 32 C) (BitVec.ofNat 32 j))
      (IntOp.addi 16#32 (IntOp.muli 64#32 (IntOp.addi (chunk (IntOp.addi (BitVec.ofNat 32 lo) (BitVec.ofNat 32 r))) 1#32)))) s b
      = if C + j < vis (lo + r) then s else ⊥ := by
  have e : ∀ x y : ℕ, IntOp.addi (BitVec.ofNat 32 x) (BitVec.ofNat 32 y) = BitVec.ofNat 32 (x + y) := fun x y => (BitVec.ofNat_add x y).symm
  rw [e, e, seen _ _ hj hr, hb]
  by_cases h : C + j < vis (lo + r) <;> simp [Scalar.select, h]

theorem mask_val : (Named.named κ "mask" 0xF149F2CA#32 : Ideal .f32) = ⊥ := IdealRules.named_const.ideal_named_scalar _ _ _ _ rfl

theorem ninf : Ideal.ofBits .f32 0xFF800000#32 = ⊥ := by simp [Ideal.ofBits, Ideal.ieee]

/-- A row over queries, keys and values: the last 256 keys masked for frame `x`, the keys before them not. -/
def rowOf {C : ℕ} (x : ℕ) (q : Fin 256 → EReal) (kl : Fin 256 → Fin 256 → EReal) (kp : Fin C → Fin 256 → EReal) (vl ol : Fin 256 → EReal) (vp op : Fin C → EReal) : EReal :=
  row (fun j => if C + j.val < vis x then dot q (kl j) else ⊥) (fun j => dot q (kp j)) vl ol vp op

/-- The first 128 columns of a block of values and the 128 columns of ones after them. -/
def lo (n : Fin 128) : Fin 256 := Fin.castLE (by decide : 128 ≤ 256) n
def hi (n : Fin 128) : Fin 256 := Fin.natAdd 128 n

end Cert.KernelIdeal.Pay

end
-- ==== Proof.AttnScr.lean ====
/- The attention call: the padded keys and values as the body lays them out, and what it reads of them. -/
module

public import proofs.«01_k».proof.Proof.AttnPay
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Rows

open Idealize.ShloMosaic Idealize.ShloMosaic.TcCoe Idealize.ShloMosaic.Pipeline Cert.KernelIdeal Cert.KernelIdeal.Gen Cert.AttnSpec

/-- The meta tokens', then the frames', then nothing. -/
def cat (mt : Fin 16 → EReal) (fr : Fin 2048 → EReal) (p : ℕ) : EReal :=
  if e : p < 16 then mt ⟨p, e⟩ else if e' : p < 2064 then fr ⟨p - 16, by omega⟩ else 0

theorem cat_meta (mt : Fin 16 → EReal) (fr : Fin 2048 → EReal) (p : ℕ) (x : Fin 16) (h : p = x.val) : cat mt fr p = mt x := by
  subst h
  simp [cat, x.isLt]

theorem cat_frame (mt : Fin 16 → EReal) (fr : Fin 2048 → EReal) (p : ℕ) (x : Fin 2048) (h : p = 16 + x.val) : cat mt fr p = fr x := by
  subst h
  have := x.isLt
  simp [cat, show ¬ 16 + x.val < 16 by omega, show 16 + x.val < 2064 by omega]

theorem cat_pad (mt : Fin 16 → EReal) (fr : Fin 2048 → EReal) (p : ℕ) (h : 2064 ≤ p) : cat mt fr p = 0 := by
  simp [cat, show ¬ p < 16 by omega, show ¬ p < 2064 by omega]

theorem zero16 : Ideal.ofBits .bf16 0#16 = 0 := by simp [Ideal.ofBits, Ideal.ieee]

theorem one16 : Ideal.ofBits .bf16 16256#16 = 1 := by
  simp [Ideal.ofBits, Ideal.ieee, -EReal.coe_mul]
  norm_num

variable (x1 : Vec Ideal S1x2x2048x256 .bf16) (x2 : Vec Ideal S1x2048x256 .bf16) (x3 : Vec Ideal S1x2x16x256 .bf16) (x4 : Vec Ideal S1x16x256 .bf16)

/-- A head's keys at a position. -/
def keyAt (g : Fin 2) (p : ℕ) (d : Fin 256) : EReal := cat (fun p => x3 (ix4 0 g p d)) (fun p => x1 (ix4 0 g p d)) p

/-- A head's 128 columns of the values. -/
def col (g : Fin 2) (n : Fin 128) : Fin 256 := ⟨128 * g.val + n.val, by omega⟩

/-- A head's values at a position. -/
def valAt (g : Fin 2) (n : Fin 128) (p : ℕ) : EReal := cat (fun p => x4 (ix3 0 p (col g n))) (fun p => x2 (ix3 0 p (col g n))) p

/-- The stores that lay out the keys, the last first. -/
def keyPieces : List (View.Piece (Elt Ideal) S2x2304x256 .bf16) :=
  [⟨Rect.unit (s := S2x2304x256) ![1, 2064, 0] S1x240x256.size inb_S2x2304x256_S1x240x256_1_2064_0, k0_pay17 (F := Ideal)⟩,
    ⟨Rect.unit (s := S2x2304x256) ![1, 16, 0] S1x2048x256.size inb_S2x2304x256_S1x2048x256_1_16_0,
      k0_pay12 (View.ld x1 (Rect.unit (s := S1x2x2048x256) ![0, 1, 0, 0] S1x1x2048x256.size inb_S1x2x2048x256_S1x1x2048x256_0_1_0_0))⟩,
    ⟨Rect.unit (s := S2x2304x256) ![1, 0, 0] S1x16x256.size inb_S2x2304x256_S1x16x256_1_0_0,
      k0_pay11 (View.ld x3 (Rect.unit (s := S1x2x16x256) ![0, 1, 0, 0] S1x1x16x256.size inb_S1x2x16x256_S1x1x16x256_0_1_0_0))⟩,
    ⟨Rect.unit (s := S2x2304x256) ![0, 2064, 0] S1x240x256.size inb_S2x2304x256_S1x240x256_0_2064_0, k0_pay9 (F := Ideal)⟩,
    ⟨Rect.unit (s := S2x2304x256) ![0, 16, 0] S1x2048x256.size inb_S2x2304x256_S1x2048x256_0_16_0,
      k0_pay5 (View.ld x1 (Rect.unit (s := S1x2x2048x256) ![0, 0, 0, 0] S1x1x2048x256.size inb_S1x2x2048x256_S1x1x2048x256_0_0_0_0))⟩,
    ⟨Rect.unit (s := S2x2304x256) ![0, 0, 0] S1x16x256.size inb_S2x2304x256_S1x16x256_0_0_0,
      k0_pay4 (View.ld x3 (Rect.unit (s := S1x2x16x256) ![0, 0, 0, 0] S1x1x16x256.size inb_S1x2x16x256_S1x1x16x256_0_0_0_0))⟩]

/-- The stores that lay out the values and the ones, the last first. -/
def valPieces : List (View.Piece (Elt Ideal) S2x2304x256 .bf16) :=
  [⟨Rect.unit (s := S2x2304x256) ![1, 0, 128] S1x2304x128.size inb_S2x2304x256_S1x2304x128_1_0_128, k0_pay18 (F := Ideal)⟩,
    ⟨Rect.unit (s := S2x2304x256) ![1, 2064, 0] S1x240x128.size inb_S2x2304x256_S1x240x128_1_2064_0, k0_pay16 (F := Ideal)⟩,
    ⟨Rect.unit (s := S2x2304x256) ![1, 16, 0] S1x2048x128.size inb_S2x2304x256_S1x2048x128_1_16_0,
      k0_pay15 (View.ld x2 (Rect.unit (s := S1x2048x256) ![0, 0, 128] S1x2048x128.size inb_S1x2048x256_S1x2048x128_0_0_128))⟩,
    ⟨Rect.unit (s := S2x2304x256) ![1, 0, 0] S1x16x128.size inb_S2x2304x256_S1x16x128_1_0_0,
      k0_pay14 (k0_pay13 (View.ld x4 (Rect.unit (s := S1x16x256) ![0, 0, 128] S1x16x128.size inb_S1x16x256_S1x16x128_0_0_128)))⟩,
    ⟨Rect.unit (s := S2x2304x256) ![0, 0, 128] S1x2304x128.size inb_S2x2304x256_S1x2304x128_0_0_128, k0_pay10 (F := Ideal)⟩,
    ⟨Rect.unit (s := S2x2304x256) ![0, 2064, 0] S1x240x128.size inb_S2x2304x256_S1x240x128_0_2064_0, k0_pay8 (F := Ideal)⟩,
    ⟨Rect.unit (s := S2x2304x256) ![0, 16, 0] S1x2048x128.size inb_S2x2304x256_S1x2048x128_0_16_0,
      k0_pay7 (View.ld x2 (Rect.unit (s := S1x2048x256) ![0, 0, 0] S1x2048x128.size inb_S1x2048x256_S1x2048x128_0_0_0))⟩,
    ⟨Rect.unit (s := S2x2304x256) ![0, 0, 0] S1x16x128.size inb_S2x2304x256_S1x16x128_0_0_0,
      k0_pay6 (View.ld x4 (Rect.unit (s := S1x16x256) ![0, 0, 0] S1x16x128.size inb_S1x16x256_S1x16x128_0_0_0))⟩]

theorem keyPieces_at (g : Fin 2) (p : Fin 2304) (d : Fin 256) : View.canon (keyPieces x1 x3) (ix3 g p d) = keyAt x1 x3 g p.val d := by
  unfold keyPieces keyAt
  canon_tiles x h using View.cover_of_tiledBy _ ![1, 16, 256] (by sl_kernel_rfl) _
  · obtain ⟨a, r, c, rfl⟩ : ∃ (a : Fin 1) (r : Fin 240) (c : Fin 256), x = ix3 a r c := ⟨x 0, x 1, x 2, by blk_ext⟩
    obtain rfl : a = 0 := Subsingleton.elim _ _
    obtain rfl : g = 1 := Fin.ext h0
    obtain rfl : d = c := Fin.ext h2
    refine Eq.trans ?_ (cat_pad _ _ _ (le_of_le_of_eq (Nat.le_add_right _ _) h1.symm)).symm
    pointwise [k0_pay17, zero16]
  · obtain ⟨a, r, c, rfl⟩ : ∃ (a : Fin 1) (r : Fin 2048) (c : Fin 256), x = ix3 a r c := ⟨x 0, x 1, x 2, by blk_ext⟩
    obtain rfl : a = 0 := Subsingleton.elim _ _
    obtain rfl : g = 1 := Fin.ext h0
    obtain rfl : d = c := Fin.ext h2
    refine Eq.trans ?_ (cat_frame _ _ _ r h1).symm
    pointwise [k0_pay12]
  · obtain ⟨a, r, c, rfl⟩ : ∃ (a : Fin 1) (r : Fin 16) (c : Fin 256), x = ix3 a r c := ⟨x 0, x 1, x 2, by blk_ext⟩
    obtain rfl : a = 0 := Subsingleton.elim _ _
    obtain rfl : g = 1 := Fin.ext h0
    obtain rfl : d = c := Fin.ext h2
    refine Eq.trans ?_ (cat_meta _ _ _ r h1).symm
    pointwise [k0_pay11]
  · obtain ⟨a, r, c, rfl⟩ : ∃ (a : Fin 1) (r : Fin 240) (c : Fin 256), x = ix3 a r c := ⟨x 0, x 1, x 2, by blk_ext⟩
    obtain rfl : a = 0 := Subsingleton.elim _ _
    obtain rfl : g = 0 := Fin.ext h0
    obtain rfl : d = c := Fin.ext h2
    refine Eq.trans ?_ (cat_pad _ _ _ (le_of_le_of_eq (Nat.le_add_right _ _) h1.symm)).symm
    pointwise [k0_pay9, zero16]
  · obtain ⟨a, r, c, rfl⟩ : ∃ (a : Fin 1) (r : Fin 2048) (c : Fin 256), x = ix3 a r c := ⟨x 0, x 1, x 2, by blk_ext⟩
    obtain rfl : a = 0 := Subsingleton.elim _ _
    obtain rfl : g = 0 := Fin.ext h0
    obtain rfl : d = c := Fin.ext h2
    refine Eq.trans ?_ (cat_frame _ _ _ r h1).symm
    pointwise [k0_pay5]
  · obtain ⟨a, r, c, rfl⟩ : ∃ (a : Fin 1) (r : Fin 16) (c : Fin 256), x = ix3 a r c := ⟨x 0, x 1, x 2, by blk_ext⟩
    obtain rfl : a = 0 := Subsingleton.elim _ _
    obtain rfl : g = 0 := Fin.ext h0
    obtain rfl : d = c := Fin.ext h2
    refine Eq.trans ?_ (cat_meta _ _ _ r h1).symm
    pointwise [k0_pay4]

theorem valPieces_lo (g : Fin 2) (p : Fin 2304) (n : Fin 128) : View.canon (valPieces x2 x4) (ix3 g p (Pay.lo n)) = valAt x2 x4 g n p.val := by
  unfold valPieces valAt
  canon_tiles x h using View.cover_of_tiledBy _ ![1, 16, 128] (by sl_kernel_rfl) _
  · exact absurd h2 (by change ¬ n.val = _; omega)
  · obtain ⟨a, r, c, rfl⟩ : ∃ (a : Fin 1) (r : Fin 240) (c : Fin 128), x = ix3 a r c := ⟨x 0, x 1, x 2, by blk_ext⟩
    obtain rfl : a = 0 := Subsingleton.elim _ _
    obtain rfl : g = 1 := Fin.ext h0
    obtain rfl : n = c := Fin.ext h2
    refine Eq.trans ?_ (cat_pad _ _ _ (le_of_le_of_eq (Nat.le_add_right _ _) h1.symm)).symm
    pointwise [k0_pay16, zero16]
  · obtain ⟨a, r, c, rfl⟩ : ∃ (a : Fin 1) (r : Fin 2048) (c : Fin 128), x = ix3 a r c := ⟨x 0, x 1, x 2, by blk_ext⟩
    obtain rfl : a = 0 := Subsingleton.elim _ _
    obtain rfl : g = 1 := Fin.ext h0
    obtain rfl : n = c := Fin.ext h2
    refine Eq.trans ?_ (cat_frame _ _ _ r h1).symm
    pointwise [k0_pay15, col]
  · obtain ⟨a, r, c, rfl⟩ : ∃ (a : Fin 1) (r : Fin 16) (c : Fin 128), x = ix3 a r c := ⟨x 0, x 1, x 2, by blk_ext⟩
    obtain rfl : a = 0 := Subsingleton.elim _ _
    obtain rfl : g = 1 := Fin.ext h0
    obtain rfl : n = c := Fin.ext h2
    refine Eq.trans ?_ (cat_meta _ _ _ r h1).symm
    pointwise [k0_pay13, k0_pay14, col]
  · exact absurd h2 (by change ¬ n.val = _; omega)
  · obtain ⟨a, r, c, rfl⟩ : ∃ (a : Fin 1) (r : Fin 240) (c : Fin 128), x = ix3 a r c := ⟨x 0, x 1, x 2, by blk_ext⟩
    obtain rfl : a = 0 := Subsingleton.elim _ _
    obtain rfl : g = 0 := Fin.ext h0
    obtain rfl : n = c := Fin.ext h2
    refine Eq.trans ?_ (cat_pad _ _ _ (le_of_le_of_eq (Nat.le_add_right _ _) h1.symm)).symm
    pointwise [k0_pay8, zero16]
  · obtain ⟨a, r, c, rfl⟩ : ∃ (a : Fin 1) (r : Fin 2048) (c : Fin 128), x = ix3 a r c := ⟨x 0, x 1, x 2, by blk_ext⟩
    obtain rfl : a = 0 := Subsingleton.elim _ _
    obtain rfl : g = 0 := Fin.ext h0
    obtain rfl : n = c := Fin.ext h2
    refine Eq.trans ?_ (cat_frame _ _ _ r h1).symm
    pointwise [k0_pay7, col]
  · obtain ⟨a, r, c, rfl⟩ : ∃ (a : Fin 1) (r : Fin 16) (c : Fin 128), x = ix3 a r c := ⟨x 0, x 1, x 2, by blk_ext⟩
    obtain rfl : a = 0 := Subsingleton.elim _ _
    obtain rfl : g = 0 := Fin.ext h0
    obtain rfl : n = c := Fin.ext h2
    refine Eq.trans ?_ (cat_meta _ _ _ r h1).symm
    pointwise [k0_pay6, col]

theorem valPieces_hi (g : Fin 2) (p : Fin 2304) (n : Fin 128) : View.canon (valPieces x2 x4) (ix3 g p (Pay.hi n)) = 1 := by
  unfold valPieces
  canon_tiles x h using View.cover_of_tiledBy _ ![1, 16, 128] (by sl_kernel_rfl) _
  all_goals first
    | exact absurd h2 (by change ¬ 128 + n.val = _; omega)
    | pointwise [k0_pay10, k0_pay18, one16]

/-- What the body reads of the keys: `w` positions of a head from `o` on. -/
theorem readKeys (g o w : ℕ) (inb) (j : Fin w) (d : Fin 256) (e : Fin 2) (he : e.val = g) :
    (View.whole cc0_scratch0).readCov (keyPieces x1 x3) (Rect.unit (s := S2x2304x256) ![g, o, 0] ![1, w, 256] inb).toLoadRect (ix3 0 j d)
      = keyAt x1 x3 e (o + j.val) d := by
  have hj : o + j.val < 2304 := lt_of_lt_of_le (Nat.add_lt_add_left j.isLt o) (inb 1)
  have ei : (Rect.unit (s := S2x2304x256) ![g, o, 0] ![1, w, 256] inb).idx (ix3 0 j d) = ix3 e ⟨o + j.val, hj⟩ d := by
    refine funext fun a => Fin.ext ((Rect.idx_unit_val _ _ _ _ _).trans ?_)
    fin_cases a
    · exact he.symm
    · rfl
    · exact Nat.zero_add _
  rw [View.readCov_eq_canon']
  exact (congrArg _ ei).trans (keyPieces_at x1 x3 e ⟨o + j.val, hj⟩ d)

/-- What the body reads of the values, and of the ones beside them. -/
theorem readVals (g o w : ℕ) (inb) (j : Fin w) (n : Fin 128) (e : Fin 2) (he : e.val = g) :
    (View.whole cc0_scratch1).readCov (valPieces x2 x4) (Rect.unit (s := S2x2304x256) ![g, o, 0] ![1, w, 256] inb).toLoadRect (ix3 0 j (Pay.lo n))
      = valAt x2 x4 e n (o + j.val) := by
  have hj : o + j.val < 2304 := lt_of_lt_of_le (Nat.add_lt_add_left j.isLt o) (inb 1)
  have ei : (Rect.unit (s := S2x2304x256) ![g, o, 0] ![1, w, 256] inb).idx (ix3 0 j (Pay.lo n)) = ix3 e ⟨o + j.val, hj⟩ (Pay.lo n) := by
    refine funext fun a => Fin.ext ((Rect.idx_unit_val _ _ _ _ _).trans ?_)
    fin_cases a
    · exact he.symm
    · rfl
    · exact Nat.zero_add _
  rw [View.readCov_eq_canon']
  exact (congrArg _ ei).trans (valPieces_lo x2 x4 e ⟨o + j.val, hj⟩ n)

theorem readOnes (g o w : ℕ) (inb) (j : Fin w) (n : Fin 128) (e : Fin 2) (he : e.val = g) :
    (View.whole cc0_scratch1).readCov (valPieces x2 x4) (Rect.unit (s := S2x2304x256) ![g, o, 0] ![1, w, 256] inb).toLoadRect (ix3 0 j (Pay.hi n)) = (1 : EReal) := by
  have hj : o + j.val < 2304 := lt_of_lt_of_le (Nat.add_lt_add_left j.isLt o) (inb 1)
  have ei : (Rect.unit (s := S2x2304x256) ![g, o, 0] ![1, w, 256] inb).idx (ix3 0 j (Pay.hi n)) = ix3 e ⟨o + j.val, hj⟩ (Pay.hi n) := by
    refine funext fun a => Fin.ext ((Rect.idx_unit_val _ _ _ _ _).trans ?_)
    fin_cases a
    · exact he.symm
    · rfl
    · exact Nat.zero_add _
  rw [View.readCov_eq_canon']
  exact (congrArg _ ei).trans (valPieces_hi x2 x4 e ⟨o + j.val, hj⟩ n)

end Cert.KernelIdeal.Rows

end
-- ==== Proof.AttnIn.lean ====
/- The attention call: its input blocks, over the argument arrays. -/
module

public import proofs.«01_k».proof.Proof.AttnScr

@[expose] public section

set_option maxRecDepth 16384

noncomputable section

namespace Cert.KernelIdeal.Rows

open Idealize.ShloMosaic Idealize.ShloMosaic.TcCoe Idealize.ShloMosaic.Pipeline Cert.KernelIdeal Cert.KernelIdeal.Gen Cert.AttnSpec

variable (m : (ℓ : Loc nD τ sig) → Buf (Elt Ideal) ℓ) (c : Dev nD)

/-- Where each window's block lies at each point: the sequence is the point's half, the pair of heads its parity. -/
theorem idx : ∀ t : Fin cfg0.N,
    win0_0.index t = ![t.val / 2, t.val % 2, 0, 0] ∧ win0_1.index t = ![t.val / 2, t.val % 2, 0, 0] ∧ win0_2.index t = ![t.val / 2, 0, t.val % 2]
    ∧ win0_3.index t = ![0, t.val % 2, 0, 0] ∧ win0_4.index t = ![0, 0, t.val % 2] ∧ win0_16.index t = ![t.val / 2, 0, t.val % 2] :=
  (by decide +kernel : ∀ t : Fin grid0.N, _)

/-- The queries' divisor. -/
theorem divisor : Ideal.sqrt (Ideal.ofBits .f32 0x43400000#32) * Ideal.log (Ideal.ofBits .f32 0x40000000#32)
    = ((Real.sqrt 192 * Real.log 2 : ℝ) : EReal) := by
  rw [show Ideal.ofBits .f32 0x43400000#32 = ((192 : ℝ) : EReal) by simp [Ideal.ofBits, Ideal.ieee, -EReal.coe_mul]; norm_num,
    show Ideal.ofBits .f32 0x40000000#32 = ((2 : ℝ) : EReal) by simp [Ideal.ofBits, Ideal.ieee, -EReal.coe_mul]; norm_num]
  simp [show ¬ (192 : ℝ) < 0 by norm_num, show ¬ (2 : ℝ) ≤ 0 by norm_num]

/-- The padding value, the integer 0 converted, is 0. -/
theorem padValue : FloatOps.sitofp (F := Ideal) .f32 (0#32 : BitVec 32) = (0 : EReal) := by
  show (((0#32 : BitVec 32).toInt : ℝ) : EReal) = 0
  simp

/-! Each operand's block, where the point's half is sequence `b` and its pair's head `g` is head `h`. -/

variable (t : Fin cfg0.N) (b : Fin 16) (h : Fin 4) (g : Fin 2)

/-- The queries, divided by the root of the width and by the logarithm of 2, and padded with zeros. -/
theorem in0 (hb : b.val = t.val / 2) (hh : h.val = 2 * (t.val % 2) + g.val) (i : Fin 2048) (d : Fin 256) : iblk m c 0 t (ix4 0 g i d)
    = if e : d.val < 192 then Ideal.div (m ((c : Thread nD τ).loc main_arg0) (ix4 b i h ⟨d.val, e⟩)) ((Real.sqrt 192 * Real.log 2 : ℝ) : EReal) else (0 : EReal) := by
  have e : iblk m c 0 t (ix4 0 g i d) = V m c main_v54 (ix4 b h i d) := by
    blk_ext [iblk, idx t]
  rw [e]
  simp only [V, hostOps0, hostOps0_1, hostOps0_2, hostOps0_3, hostOps0_4, hostOps0_5, hostOps0_6, List.flatten_cons, List.flatten_nil, List.append_nil,
    List.cons_append, List.nil_append]
  entry_read
  simp only [StableHlo.TRef.toBuf, StableHlo.TRef.ofBuf, cast_cast, cast_eq]
  pointwise
  rw [divisor, padValue]

/-- The keys, padded with zeros. -/
theorem in1 (hb : b.val = t.val / 2) (hh : h.val = 2 * (t.val % 2) + g.val) (i : Fin 2048) (d : Fin 256) : iblk m c 1 t (ix4 0 g i d)
    = if e : d.val < 192 then m ((c : Thread nD τ).loc main_arg1) (ix4 b i h ⟨d.val, e⟩) else (0 : EReal) := by
  have e : iblk m c 1 t (ix4 0 g i d) = V m c main_v57 (ix4 b h i d) := by
    blk_ext [iblk, idx t]
  rw [e]
  simp only [V, hostOps0, hostOps0_1, hostOps0_2, hostOps0_3, hostOps0_4, hostOps0_5, hostOps0_6, List.flatten_cons, List.flatten_nil, List.append_nil,
    List.cons_append, List.nil_append]
  entry_read
  simp only [StableHlo.TRef.toBuf, StableHlo.TRef.ofBuf, cast_cast, cast_eq]
  pointwise
  rw [padValue]

/-- The values. -/
theorem in2 (hb : b.val = t.val / 2) (hh : h.val = 2 * (t.val % 2) + g.val) (i : Fin 2048) (n : Fin 128) : iblk m c 2 t (ix3 0 i (col g n))
    = m ((c : Thread nD τ).loc main_arg2) (ix4 b i h n) := by
  have e : iblk m c 2 t (ix3 0 i (col g n)) = V m c main_v59 (ix3 b i ⟨128 * h.val + n.val, by omega⟩) := by
    blk_ext [iblk, idx t, col]
  rw [e]
  simp only [V, hostOps0, hostOps0_1, hostOps0_2, hostOps0_3, hostOps0_4, hostOps0_5, hostOps0_6, List.flatten_cons, List.flatten_nil, List.append_nil,
    List.cons_append, List.nil_append]
  entry_read
  pointwise
  rw [show (⟨(128 * h.val + n.val) / 128, by omega⟩ : Fin 4) = h from Fin.ext (by simp only; omega),
    show (⟨(128 * h.val + n.val) % 128, by omega⟩ : Fin 128) = n from Fin.ext (by simp only; omega)]

/-- The meta tokens' keys, padded with zeros. -/
theorem in3 (hh : h.val = 2 * (t.val % 2) + g.val) (p : Fin 16) (d : Fin 256) : iblk m c 3 t (ix4 0 g p d)
    = if e : d.val < 192 then m ((c : Thread nD τ).loc main_arg3) (ix3 p h ⟨d.val, e⟩) else (0 : EReal) := by
  have e : iblk m c 3 t (ix4 0 g p d) = V m c main_v63 (ix4 0 h p d) := by
    blk_ext [iblk, idx t]
  rw [e]
  simp only [V, hostOps0, hostOps0_1, hostOps0_2, hostOps0_3, hostOps0_4, hostOps0_5, hostOps0_6, List.flatten_cons, List.flatten_nil, List.append_nil,
    List.cons_append, List.nil_append]
  entry_read
  simp only [StableHlo.TRef.toBuf, StableHlo.TRef.ofBuf, cast_cast, cast_eq]
  pointwise
  rw [padValue]

/-- The meta tokens' values. -/
theorem in4 (hh : h.val = 2 * (t.val % 2) + g.val) (p : Fin 16) (n : Fin 128) : iblk m c 4 t (ix3 0 p (col g n))
    = m ((c : Thread nD τ).loc main_arg4) (ix3 p h n) := by
  have e : iblk m c 4 t (ix3 0 p (col g n)) = V m c main_v66 (ix3 0 p ⟨128 * h.val + n.val, by omega⟩) := by
    blk_ext [iblk, idx t, col]
  rw [e]
  simp only [V, hostOps0, hostOps0_1, hostOps0_2, hostOps0_3, hostOps0_4, hostOps0_5, hostOps0_6, List.flatten_cons, List.flatten_nil, List.append_nil,
    List.cons_append, List.nil_append]
  entry_read
  pointwise
  rw [show (⟨(128 * h.val + n.val) / 128, by omega⟩ : Fin 4) = h from Fin.ext (by simp only; omega),
    show (⟨(128 * h.val + n.val) % 128, by omega⟩ : Fin 128) = n from Fin.ext (by simp only; omega)]

end Cert.KernelIdeal.Rows

end
-- ==== Proof.AttnPay1.lean ====
/- The attention call: what the body stores, entry by entry, over the blocks it reads; rows 0 to 703. -/
module

public import proofs.«01_k».proof.Proof.AttnPay

@[expose] public section

set_option maxRecDepth 16384

noncomputable section

namespace Cert.KernelIdeal.Pay

open Idealize.ShloMosaic Idealize.ShloMosaic.TcCoe Idealize.ShloMosaic.Pipeline Cert.KernelIdeal Cert.KernelIdeal.Gen Cert.AttnSpec

/-! Rows 0 to 191, first head. -/

theorem last0a (q : Vec Ideal S1x1x192x256 .bf16) (kl : Vec Ideal S1x256x256 .bf16) (r : Fin 192) (j : Fin 256) :
    ((k0_pay52 (k0_pay50 q) k0_pay51 ((iota .tc S192x256 32 [1] iota_S192x256_d1_w32)) kl) : FVec Ideal S192x256 .f32) (ix2 r j) = if 0 + j.val < vis (0 + r.val) then dot (fun d => q (ix4 0 0 r d)) (fun d => kl (ix3 0 j d)) else ⊥ := by
  pointwise [k0_pay50, k0_pay51, k0_pay52, dot]
  exact (select_seen 0 0 j r (by omega) (by omega) _ _ mask_val).trans (by simp only [Nat.zero_add])

theorem fin0a (s : FVec Ideal S192x256 .f32) (vl : Vec Ideal S1x256x256 .bf16) (r : Fin 192) (n : Fin 128) :
    (k0_pay66 s vl) (ix3 0 r n) = row0 (fun j => s (ix2 r j)) (fun j => vl (ix3 0 j (lo n))) (fun j => vl (ix3 0 j (hi n))) := by
  pointwise [k0_pay66, row0, acc0]
  simp only [ninf]
  rfl

theorem tile0a (q : Vec Ideal S1x1x192x256 .bf16) (kl : Vec Ideal S1x256x256 .bf16) (vl : Vec Ideal S1x256x256 .bf16) (r : Fin 192) (n : Fin 128) :
    (k0_pay66 (k0_pay52 (k0_pay50 q) k0_pay51 ((iota .tc S192x256 32 [1] iota_S192x256_d1_w32)) kl) vl) (ix3 0 r n)
      = rowOf (C := 0) (0 + r.val) (fun d => q (ix4 0 0 r d)) (fun j d => kl (ix3 0 j d)) Fin.elim0 (fun j => vl (ix3 0 j (lo n))) (fun j => vl (ix3 0 j (hi n))) Fin.elim0 Fin.elim0 := by
  rw [fin0a, row0_eq]
  unfold rowOf
  refine congrArg₂ (fun a b => row a b _ _ _ _) (funext fun j => last0a q kl r j) (funext fun j => j.elim0)

/-! Rows 0 to 191, second head. -/

theorem last0b (q : Vec Ideal S1x1x192x256 .bf16) (kl : Vec Ideal S1x256x256 .bf16) (r : Fin 192) (j : Fin 256) :
    ((k0_pay65 (k0_pay61 q) k0_pay62 k0_pay63 k0_pay64 kl) : FVec Ideal S192x256 .f32) (ix2 r j) = if 0 + j.val < vis (0 + r.val) then dot (fun d => q (ix4 0 0 r d)) (fun d => kl (ix3 0 j d)) else ⊥ := by
  pointwise [k0_pay61, k0_pay62, k0_pay63, k0_pay64, k0_pay65, dot]
  exact (select_seen 0 0 j r (by omega) (by omega) _ _ mask_val).trans (by simp only [Nat.zero_add])

theorem fin0b (s : FVec Ideal S192x256 .f32) (vl : Vec Ideal S1x256x256 .bf16) (r : Fin 192) (n : Fin 128) :
    (k0_pay96 (k0_pay95 s vl)) (ix3 0 r n) = row0 (fun j => s (ix2 r j)) (fun j => vl (ix3 0 j (lo n))) (fun j => vl (ix3 0 j (hi n))) := by
  pointwise [k0_pay95, k0_pay96, row0, acc0]
  simp only [ninf]
  rfl

theorem tile0b (q : Vec Ideal S1x1x192x256 .bf16) (kl : Vec Ideal S1x256x256 .bf16) (vl : Vec Ideal S1x256x256 .bf16) (r : Fin 192) (n : Fin 128) :
    (k0_pay96 (k0_pay95 (k0_pay65 (k0_pay61 q) k0_pay62 k0_pay63 k0_pay64 kl) vl)) (ix3 0 r n)
      = rowOf (C := 0) (0 + r.val) (fun d => q (ix4 0 0 r d)) (fun j d => kl (ix3 0 j d)) Fin.elim0 (fun j => vl (ix3 0 j (lo n))) (fun j => vl (ix3 0 j (hi n))) Fin.elim0 Fin.elim0 := by
  rw [fin0b, row0_eq]
  unfold rowOf
  refine congrArg₂ (fun a b => row a b _ _ _ _) (funext fun j => last0b q kl r j) (funext fun j => j.elim0)

/-! Rows 192 to 447, first head. -/

theorem last1a (q : Vec Ideal S1x1x256x256 .bf16) (kl : Vec Ideal S1x256x256 .bf16) (r : Fin 256) (j : Fin 256) :
    ((k0_pay136 q kl) : FVec Ideal S256x256 .f32) (ix2 r j) = if 256 + j.val < vis (192 + r.val) then dot (fun d => q (ix4 0 0 r d)) (fun d => kl (ix3 0 j d)) else ⊥ := by
  pointwise [k0_pay135, k0_pay136, dot]
  exact select_seen 256 192 j r (by omega) (by omega) _ _ mask_val

theorem past1a (q : Vec Ideal S1x1x256x256 .bf16) (kp : Vec Ideal S1x256x256 .bf16) (r : Fin 256) (j : Fin 256) : (k0_pay137 (k0_pay135 q) kp) (ix2 r j) = dot (fun d => q (ix4 0 0 r d)) (fun d => kp (ix3 0 j d)) := by
  pointwise [k0_pay135, k0_pay137, dot]

theorem fin1a (s : FVec Ideal S256x256 .f32) (p : FVec Ideal S256x256 .f32) (vl : Vec Ideal S1x256x256 .bf16) (vp : Vec Ideal S1x256x256 .bf16) (r : Fin 256) (n : Fin 128) :
    (k0_pay148 s p vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay148, row, acc, top]
  simp only [ninf]
  rfl

theorem tile1a (q : Vec Ideal S1x1x256x256 .bf16) (kl : Vec Ideal S1x256x256 .bf16) (kp : Vec Ideal S1x256x256 .bf16) (vl : Vec Ideal S1x256x256 .bf16) (vp : Vec Ideal S1x256x256 .bf16) (r : Fin 256) (n : Fin 128) :
    (k0_pay148 (k0_pay136 q kl) (k0_pay137 (k0_pay135 q) kp) vl vp) (ix3 0 r n)
      = rowOf (C := 256) (192 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin1a]
  exact congrArg₂ (fun a b => row a b _ _ _ _) (funext fun j => last1a q kl r j) (funext fun j => past1a q kp r j)

/-! Rows 192 to 447, second head. -/

theorem last1b (q : Vec Ideal S1x1x256x256 .bf16) (kl : Vec Ideal S1x256x256 .bf16) (r : Fin 256) (j : Fin 256) :
    ((k0_pay146 (k0_pay145 q) kl) : FVec Ideal S256x256 .f32) (ix2 r j) = if 256 + j.val < vis (192 + r.val) then dot (fun d => q (ix4 0 0 r d)) (fun d => kl (ix3 0 j d)) else ⊥ := by
  pointwise [k0_pay145, k0_pay146, dot]
  exact select_seen 256 192 j r (by omega) (by omega) _ _ mask_val

theorem past1b (q : Vec Ideal S1x1x256x256 .bf16) (kp : Vec Ideal S1x256x256 .bf16) (r : Fin 256) (j : Fin 256) : (k0_pay147 (k0_pay145 q) kp) (ix2 r j) = dot (fun d => q (ix4 0 0 r d)) (fun d => kp (ix3 0 j d)) := by
  pointwise [k0_pay145, k0_pay147, dot]

theorem fin1b (s : FVec Ideal S256x256 .f32) (p : FVec Ideal S256x256 .f32) (vl : Vec Ideal S1x256x256 .bf16) (vp : Vec Ideal S1x256x256 .bf16) (r : Fin 256) (n : Fin 128) :
    (k0_pay179 p (k0_pay177 s p ) (k0_pay178 s p ) vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay177, k0_pay178, k0_pay179, row, acc, top]
  simp only [ninf]
  rfl

theorem tile1b (q : Vec Ideal S1x1x256x256 .bf16) (kl : Vec Ideal S1x256x256 .bf16) (kp : Vec Ideal S1x256x256 .bf16) (vl : Vec Ideal S1x256x256 .bf16) (vp : Vec Ideal S1x256x256 .bf16) (r : Fin 256) (n : Fin 128) :
    (k0_pay179 (k0_pay147 (k0_pay145 q) kp) (k0_pay177 (k0_pay146 (k0_pay145 q) kl) (k0_pay147 (k0_pay145 q) kp) ) (k0_pay178 (k0_pay146 (k0_pay145 q) kl) (k0_pay147 (k0_pay145 q) kp) ) vl vp) (ix3 0 r n)
      = rowOf (C := 256) (192 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin1b]
  exact congrArg₂ (fun a b => row a b _ _ _ _) (funext fun j => last1b q kl r j) (funext fun j => past1b q kp r j)

/-! Rows 448 to 703, first head. -/

theorem last2a (q : Vec Ideal S1x1x256x256 .bf16) (kl : Vec Ideal S1x256x256 .bf16) (r : Fin 256) (j : Fin 256) :
    ((k0_pay225 (k0_pay223 q) k0_pay224 ((iota .tc S256x256 32 [1] iota_S256x256_d1_w32)) kl) : FVec Ideal S256x256 .f32) (ix2 r j) = if 512 + j.val < vis (448 + r.val) then dot (fun d => q (ix4 0 0 r d)) (fun d => kl (ix3 0 j d)) else ⊥ := by
  pointwise [k0_pay223, k0_pay224, k0_pay225, dot]
  exact select_seen 512 448 j r (by omega) (by omega) _ _ mask_val

theorem past2a (q : Vec Ideal S1x1x256x256 .bf16) (kp : Vec Ideal S1x512x256 .bf16) (r : Fin 256) (j : Fin 512) : (k0_pay226 (k0_pay223 q) kp) (ix2 r j) = dot (fun d => q (ix4 0 0 r d)) (fun d => kp (ix3 0 j d)) := by
  pointwise [k0_pay223, k0_pay226, dot]

theorem fin2a (s : FVec Ideal S256x256 .f32) (p : FVec Ideal S256x512 .f32) (vl : Vec Ideal S1x256x256 .bf16) (vp : Vec Ideal S1x512x256 .bf16) (r : Fin 256) (n : Fin 128) :
    (k0_pay238 (k0_pay236 s p vl vp) (k0_pay237 s p vl vp)) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay236, k0_pay237, k0_pay238, row, acc, top]
  simp only [ninf]
  rfl

theorem tile2a (q : Vec Ideal S1x1x256x256 .bf16) (kl : Vec Ideal S1x256x256 .bf16) (kp : Vec Ideal S1x512x256 .bf16) (vl : Vec Ideal S1x256x256 .bf16) (vp : Vec Ideal S1x512x256 .bf16) (r : Fin 256) (n : Fin 128) :
    (k0_pay238 (k0_pay236 (k0_pay225 (k0_pay223 q) k0_pay224 ((iota .tc S256x256 32 [1] iota_S256x256_d1_w32)) kl) (k0_pay226 (k0_pay223 q) kp) vl vp) (k0_pay237 (k0_pay225 (k0_pay223 q) k0_pay224 ((iota .tc S256x256 32 [1] iota_S256x256_d1_w32)) kl) (k0_pay226 (k0_pay223 q) kp) vl vp)) (ix3 0 r n)
      = rowOf (C := 512) (448 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin2a]
  exact congrArg₂ (fun a b => row a b _ _ _ _) (funext fun j => last2a q kl r j) (funext fun j => past2a q kp r j)

/-! Rows 448 to 703, second head. -/

theorem last2b (q : Vec Ideal S1x1x256x256 .bf16) (kl : Vec Ideal S1x256x256 .bf16) (r : Fin 256) (j : Fin 256) :
    ((k0_pay234 (k0_pay232 q) k0_pay233 ((iota .tc S256x256 32 [1] iota_S256x256_d1_w32)) 512#32 kl) : FVec Ideal S256x256 .f32) (ix2 r j) = if 512 + j.val < vis (448 + r.val) then dot (fun d => q (ix4 0 0 r d)) (fun d => kl (ix3 0 j d)) else ⊥ := by
  pointwise [k0_pay232, k0_pay233, k0_pay234, dot]
  exact select_seen 512 448 j r (by omega) (by omega) _ _ mask_val

theorem past2b (q : Vec Ideal S1x1x256x256 .bf16) (kp : Vec Ideal S1x512x256 .bf16) (r : Fin 256) (j : Fin 512) : (k0_pay235 (k0_pay232 q) kp) (ix2 r j) = dot (fun d => q (ix4 0 0 r d)) (fun d => kp (ix3 0 j d)) := by
  pointwise [k0_pay232, k0_pay235, dot]

theorem fin2b (s : FVec Ideal S256x256 .f32) (p : FVec Ideal S256x512 .f32) (vl : Vec Ideal S1x256x256 .bf16) (vp : Vec Ideal S1x512x256 .bf16) (r : Fin 256) (n : Fin 128) :
    (k0_pay266 s p vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay266, row, acc, top]
  simp only [ninf]
  rfl

theorem tile2b (q : Vec Ideal S1x1x256x256 .bf16) (kl : Vec Ideal S1x256x256 .bf16) (kp : Vec Ideal S1x512x256 .bf16) (vl : Vec Ideal S1x256x256 .bf16) (vp : Vec Ideal S1x512x256 .bf16) (r : Fin 256) (n : Fin 128) :
    (k0_pay266 (k0_pay234 (k0_pay232 q) k0_pay233 ((iota .tc S256x256 32 [1] iota_S256x256_d1_w32)) 512#32 kl) (k0_pay235 (k0_pay232 q) kp) vl vp) (ix3 0 r n)
      = rowOf (C := 512) (448 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin2b]
  exact congrArg₂ (fun a b => row a b _ _ _ _) (funext fun j => last2b q kl r j) (funext fun j => past2b q kp r j)

end Cert.KernelIdeal.Pay

end
-- ==== Proof.AttnPay2.lean ====
/- The attention call: what the body stores, entry by entry, over the blocks it reads; rows 704 to 1471. -/
module

public import proofs.«01_k».proof.Proof.AttnPay

@[expose] public section

set_option maxRecDepth 16384

noncomputable section

namespace Cert.KernelIdeal.Pay

open Idealize.ShloMosaic Idealize.ShloMosaic.TcCoe Idealize.ShloMosaic.Pipeline Cert.KernelIdeal Cert.KernelIdeal.Gen Cert.AttnSpec

/-! Rows 704 to 959, first head. -/

theorem last3a (q : Vec Ideal S1x1x256x256 .bf16) (kl : Vec Ideal S1x256x256 .bf16) (r : Fin 256) (j : Fin 256) :
    ((k0_pay319 (k0_pay314 q) k0_pay315 64#32 k0_pay316 k0_pay317 k0_pay318 kl) : FVec Ideal S256x256 .f32) (ix2 r j) = if 768 + j.val < vis (704 + r.val) then dot (fun d => q (ix4 0 0 r d)) (fun d => kl (ix3 0 j d)) else ⊥ := by
  pointwise [k0_pay314, k0_pay315, k0_pay316, k0_pay317, k0_pay318, k0_pay319, dot]
  exact select_seen 768 704 j r (by omega) (by omega) _ _ mask_val

theorem past3a (q : Vec Ideal S1x1x256x256 .bf16) (kp : Vec Ideal S1x768x256 .bf16) (r : Fin 256) (j : Fin 768) : (k0_pay320 (k0_pay314 q) kp) (ix2 r j) = dot (fun d => q (ix4 0 0 r d)) (fun d => kp (ix3 0 j d)) := by
  pointwise [k0_pay314, k0_pay320, dot]

theorem fin3a (s : FVec Ideal S256x256 .f32) (p : FVec Ideal S256x768 .f32) (vl : Vec Ideal S1x256x256 .bf16) (vp : Vec Ideal S1x768x256 .bf16) (r : Fin 256) (n : Fin 128) :
    (k0_pay338 s p (k0_pay336 s p ) (k0_pay337 s p ) vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay336, k0_pay337, k0_pay338, row, acc, top]
  simp only [ninf]
  rfl

theorem tile3a (q : Vec Ideal S1x1x256x256 .bf16) (kl : Vec Ideal S1x256x256 .bf16) (kp : Vec Ideal S1x768x256 .bf16) (vl : Vec Ideal S1x256x256 .bf16) (vp : Vec Ideal S1x768x256 .bf16) (r : Fin 256) (n : Fin 128) :
    (k0_pay338 (k0_pay319 (k0_pay314 q) k0_pay315 64#32 k0_pay316 k0_pay317 k0_pay318 kl) (k0_pay320 (k0_pay314 q) kp) (k0_pay336 (k0_pay319 (k0_pay314 q) k0_pay315 64#32 k0_pay316 k0_pay317 k0_pay318 kl) (k0_pay320 (k0_pay314 q) kp) ) (k0_pay337 (k0_pay319 (k0_pay314 q) k0_pay315 64#32 k0_pay316 k0_pay317 k0_pay318 kl) (k0_pay320 (k0_pay314 q) kp) ) vl vp) (ix3 0 r n)
      = rowOf (C := 768) (704 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin3a]
  exact congrArg₂ (fun a b => row a b _ _ _ _) (funext fun j => last3a q kl r j) (funext fun j => past3a q kp r j)

/-! Rows 704 to 959, second head. -/

theorem last3b (q : Vec Ideal S1x1x256x256 .bf16) (kl : Vec Ideal S1x256x256 .bf16) (r : Fin 256) (j : Fin 256) :
    ((k0_pay334 (k0_pay329 q) k0_pay330 64#32 k0_pay331 k0_pay332 k0_pay333 kl) : FVec Ideal S256x256 .f32) (ix2 r j) = if 768 + j.val < vis (704 + r.val) then dot (fun d => q (ix4 0 0 r d)) (fun d => kl (ix3 0 j d)) else ⊥ := by
  pointwise [k0_pay329, k0_pay330, k0_pay331, k0_pay332, k0_pay333, k0_pay334, dot]
  exact select_seen 768 704 j r (by omega) (by omega) _ _ mask_val

theorem past3b (q : Vec Ideal S1x1x256x256 .bf16) (kp : Vec Ideal S1x768x256 .bf16) (r : Fin 256) (j : Fin 768) : (k0_pay335 (k0_pay329 q) kp) (ix2 r j) = dot (fun d => q (ix4 0 0 r d)) (fun d => kp (ix3 0 j d)) := by
  pointwise [k0_pay329, k0_pay335, dot]

theorem fin3b (s : FVec Ideal S256x256 .f32) (p : FVec Ideal S256x768 .f32) (vl : Vec Ideal S1x256x256 .bf16) (vp : Vec Ideal S1x768x256 .bf16) (r : Fin 256) (n : Fin 128) :
    (k0_pay366 (k0_pay364 s p vl) (k0_pay365 s p vp)) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay363, k0_pay364, k0_pay365, k0_pay366, row, acc, top]
  simp only [ninf]
  rfl

theorem tile3b (q : Vec Ideal S1x1x256x256 .bf16) (kl : Vec Ideal S1x256x256 .bf16) (kp : Vec Ideal S1x768x256 .bf16) (vl : Vec Ideal S1x256x256 .bf16) (vp : Vec Ideal S1x768x256 .bf16) (r : Fin 256) (n : Fin 128) :
    (k0_pay366 (k0_pay364 (k0_pay334 (k0_pay329 q) k0_pay330 64#32 k0_pay331 k0_pay332 k0_pay333 kl) (k0_pay335 (k0_pay329 q) kp) vl) (k0_pay365 (k0_pay334 (k0_pay329 q) k0_pay330 64#32 k0_pay331 k0_pay332 k0_pay333 kl) (k0_pay335 (k0_pay329 q) kp) vp)) (ix3 0 r n)
      = rowOf (C := 768) (704 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin3b]
  exact congrArg₂ (fun a b => row a b _ _ _ _) (funext fun j => last3b q kl r j) (funext fun j => past3b q kp r j)

/-! Rows 960 to 1215, first head. -/

theorem last4a (q : Vec Ideal S1x1x256x256 .bf16) (kl : Vec Ideal S1x256x256 .bf16) (r : Fin 256) (j : Fin 256) :
    ((k0_pay361 (k0_pay359 q) k0_pay360 kl) : FVec Ideal S256x256 .f32) (ix2 r j) = if 1024 + j.val < vis (960 + r.val) then dot (fun d => q (ix4 0 0 r d)) (fun d => kl (ix3 0 j d)) else ⊥ := by
  pointwise [k0_pay359, k0_pay360, k0_pay361, dot]
  exact select_seen 1024 960 j r (by omega) (by omega) _ _ mask_val

theorem past4a (q : Vec Ideal S1x1x256x256 .bf16) (kp : Vec Ideal S1x1024x256 .bf16) (r : Fin 256) (j : Fin 1024) : (k0_pay362 (k0_pay359 q) kp) (ix2 r j) = dot (fun d => q (ix4 0 0 r d)) (fun d => kp (ix3 0 j d)) := by
  pointwise [k0_pay359, k0_pay362, dot]

theorem fin4a (s : FVec Ideal S256x256 .f32) (p : FVec Ideal S256x1024 .f32) (vl : Vec Ideal S1x256x256 .bf16) (vp : Vec Ideal S1x1024x256 .bf16) (r : Fin 256) (n : Fin 128) :
    (k0_pay394 s p (k0_pay392 s ) (k0_pay393 p ) vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay392, k0_pay393, k0_pay394, row, acc, top]
  simp only [ninf]
  rfl

theorem tile4a (q : Vec Ideal S1x1x256x256 .bf16) (kl : Vec Ideal S1x256x256 .bf16) (kp : Vec Ideal S1x1024x256 .bf16) (vl : Vec Ideal S1x256x256 .bf16) (vp : Vec Ideal S1x1024x256 .bf16) (r : Fin 256) (n : Fin 128) :
    (k0_pay394 (k0_pay361 (k0_pay359 q) k0_pay360 kl) (k0_pay362 (k0_pay359 q) kp) (k0_pay392 (k0_pay361 (k0_pay359 q) k0_pay360 kl) ) (k0_pay393 (k0_pay362 (k0_pay359 q) kp) ) vl vp) (ix3 0 r n)
      = rowOf (C := 1024) (960 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin4a]
  exact congrArg₂ (fun a b => row a b _ _ _ _) (funext fun j => last4a q kl r j) (funext fun j => past4a q kp r j)

/-! Rows 960 to 1215, second head. -/

theorem last4b (q : Vec Ideal S1x1x256x256 .bf16) (kl : Vec Ideal S1x256x256 .bf16) (r : Fin 256) (j : Fin 256) :
    ((k0_pay390 (k0_pay386 q) k0_pay387 64#32 k0_pay388 k0_pay389 kl) : FVec Ideal S256x256 .f32) (ix2 r j) = if 1024 + j.val < vis (960 + r.val) then dot (fun d => q (ix4 0 0 r d)) (fun d => kl (ix3 0 j d)) else ⊥ := by
  pointwise [k0_pay386, k0_pay387, k0_pay388, k0_pay389, k0_pay390, dot]
  exact select_seen 1024 960 j r (by omega) (by omega) _ _ mask_val

theorem past4b (q : Vec Ideal S1x1x256x256 .bf16) (kp : Vec Ideal S1x1024x256 .bf16) (r : Fin 256) (j : Fin 1024) : (k0_pay391 (k0_pay386 q) kp) (ix2 r j) = dot (fun d => q (ix4 0 0 r d)) (fun d => kp (ix3 0 j d)) := by
  pointwise [k0_pay386, k0_pay391, dot]

theorem fin4b (s : FVec Ideal S256x256 .f32) (p : FVec Ideal S256x1024 .f32) (vl : Vec Ideal S1x256x256 .bf16) (vp : Vec Ideal S1x1024x256 .bf16) (r : Fin 256) (n : Fin 128) :
    (k0_pay1 (k0_pay396 s p vl) (k0_pay397 s p ) vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay1, k0_pay395, k0_pay396, k0_pay397, row, acc, top]
  simp only [ninf]
  rfl

theorem tile4b (q : Vec Ideal S1x1x256x256 .bf16) (kl : Vec Ideal S1x256x256 .bf16) (kp : Vec Ideal S1x1024x256 .bf16) (vl : Vec Ideal S1x256x256 .bf16) (vp : Vec Ideal S1x1024x256 .bf16) (r : Fin 256) (n : Fin 128) :
    (k0_pay1 (k0_pay396 (k0_pay390 (k0_pay386 q) k0_pay387 64#32 k0_pay388 k0_pay389 kl) (k0_pay391 (k0_pay386 q) kp) vl) (k0_pay397 (k0_pay390 (k0_pay386 q) k0_pay387 64#32 k0_pay388 k0_pay389 kl) (k0_pay391 (k0_pay386 q) kp) ) vp) (ix3 0 r n)
      = rowOf (C := 1024) (960 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin4b]
  exact congrArg₂ (fun a b => row a b _ _ _ _) (funext fun j => last4b q kl r j) (funext fun j => past4b q kp r j)

/-! Rows 1216 to 1471, first head. -/

theorem last5a (q : Vec Ideal S1x1x256x256 .bf16) (kl : Vec Ideal S1x256x256 .bf16) (r : Fin 256) (j : Fin 256) :
    ((k0_pay264 k0_pay261 (k0_pay262 q kl) (k0_pay263 (F := Ideal))) : FVec Ideal S256x256 .f32) (ix2 r j) = if 1280 + j.val < vis (1216 + r.val) then dot (fun d => q (ix4 0 0 r d)) (fun d => kl (ix3 0 j d)) else ⊥ := by
  pointwise [k0_pay260, k0_pay261, k0_pay262, k0_pay263, k0_pay264, dot]
  exact select_seen 1280 1216 j r (by omega) (by omega) _ _ mask_val

theorem past5a (q : Vec Ideal S1x1x256x256 .bf16) (kp : Vec Ideal S1x1280x256 .bf16) (r : Fin 256) (j : Fin 1280) : (k0_pay265 (k0_pay260 q) kp) (ix2 r j) = dot (fun d => q (ix4 0 0 r d)) (fun d => kp (ix3 0 j d)) := by
  pointwise [k0_pay260, k0_pay265, dot]

theorem fin5a (s : FVec Ideal S256x256 .f32) (p : FVec Ideal S256x1280 .f32) (vl : Vec Ideal S1x256x256 .bf16) (vp : Vec Ideal S1x1280x256 .bf16) (r : Fin 256) (n : Fin 128) :
    (k0_pay298 (k0_pay295 s p vl) (k0_pay296 s p ) (k0_pay297 vp) ((constant S256x256 .f32 0x00000000#32))) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay294, k0_pay295, k0_pay296, k0_pay297, k0_pay298, row, acc, top]
  simp only [ninf]
  rfl

theorem tile5a (q : Vec Ideal S1x1x256x256 .bf16) (kl : Vec Ideal S1x256x256 .bf16) (kp : Vec Ideal S1x1280x256 .bf16) (vl : Vec Ideal S1x256x256 .bf16) (vp : Vec Ideal S1x1280x256 .bf16) (r : Fin 256) (n : Fin 128) :
    (k0_pay298 (k0_pay295 (k0_pay264 k0_pay261 (k0_pay262 q kl) (k0_pay263 (F := Ideal))) (k0_pay265 (k0_pay260 q) kp) vl) (k0_pay296 (k0_pay264 k0_pay261 (k0_pay262 q kl) (k0_pay263 (F := Ideal))) (k0_pay265 (k0_pay260 q) kp) ) (k0_pay297 vp) ((constant S256x256 .f32 0x00000000#32))) (ix3 0 r n)
      = rowOf (C := 1280) (1216 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin5a]
  exact congrArg₂ (fun a b => row a b _ _ _ _) (funext fun j => last5a q kl r j) (funext fun j => past5a q kp r j)

/-! Rows 1216 to 1471, second head. -/

theorem last5b (q : Vec Ideal S1x1x256x256 .bf16) (kl : Vec Ideal S1x256x256 .bf16) (r : Fin 256) (j : Fin 256) :
    ((k0_pay292 (k0_pay287 q) k0_pay289 k0_pay290 k0_pay291 kl) : FVec Ideal S256x256 .f32) (ix2 r j) = if 1280 + j.val < vis (1216 + r.val) then dot (fun d => q (ix4 0 0 r d)) (fun d => kl (ix3 0 j d)) else ⊥ := by
  pointwise [k0_pay287, k0_pay288, k0_pay289, k0_pay290, k0_pay291, k0_pay292, dot]
  exact select_seen 1280 1216 j r (by omega) (by omega) _ _ mask_val

theorem past5b (q : Vec Ideal S1x1x256x256 .bf16) (kp : Vec Ideal S1x1280x256 .bf16) (r : Fin 256) (j : Fin 1280) : (k0_pay293 (k0_pay287 q) kp) (ix2 r j) = dot (fun d => q (ix4 0 0 r d)) (fun d => kp (ix3 0 j d)) := by
  pointwise [k0_pay287, k0_pay293, dot]

theorem fin5b (s : FVec Ideal S256x256 .f32) (p : FVec Ideal S256x1280 .f32) (vl : Vec Ideal S1x256x256 .bf16) (vp : Vec Ideal S1x1280x256 .bf16) (r : Fin 256) (n : Fin 128) :
    (k0_pay322 s p (k0_pay321 s p ) vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay321, k0_pay322, row, acc, top]
  simp only [ninf]
  rfl

theorem tile5b (q : Vec Ideal S1x1x256x256 .bf16) (kl : Vec Ideal S1x256x256 .bf16) (kp : Vec Ideal S1x1280x256 .bf16) (vl : Vec Ideal S1x256x256 .bf16) (vp : Vec Ideal S1x1280x256 .bf16) (r : Fin 256) (n : Fin 128) :
    (k0_pay322 (k0_pay292 (k0_pay287 q) k0_pay289 k0_pay290 k0_pay291 kl) (k0_pay293 (k0_pay287 q) kp) (k0_pay321 (k0_pay292 (k0_pay287 q) k0_pay289 k0_pay290 k0_pay291 kl) (k0_pay293 (k0_pay287 q) kp) ) vl vp) (ix3 0 r n)
      = rowOf (C := 1280) (1216 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin5b]
  exact congrArg₂ (fun a b => row a b _ _ _ _) (funext fun j => last5b q kl r j) (funext fun j => past5b q kp r j)

end Cert.KernelIdeal.Pay

end
-- ==== Proof.AttnPay3.lean ====
/- The attention call: what the body stores, entry by entry, over the blocks it reads; rows 1472 to 2047. -/
module

public import proofs.«01_k».proof.Proof.AttnPay

@[expose] public section

set_option maxRecDepth 16384

noncomputable section

namespace Cert.KernelIdeal.Pay

open Idealize.ShloMosaic Idealize.ShloMosaic.TcCoe Idealize.ShloMosaic.Pipeline Cert.KernelIdeal Cert.KernelIdeal.Gen Cert.AttnSpec

/-! Rows 1472 to 1727, first head. -/

theorem last6a (q : Vec Ideal S1x1x256x256 .bf16) (kl : Vec Ideal S1x256x256 .bf16) (r : Fin 256) (j : Fin 256) :
    ((k0_pay175 (k0_pay171 q) k0_pay172 64#32 k0_pay173 k0_pay174 ((Scalar.extui (Scalar.cmpi .sgt 64#32 0#32))) ((Scalar.cmpi .slt 64#32 0#32)) kl) : FVec Ideal S256x256 .f32) (ix2 r j) = if 1536 + j.val < vis (1472 + r.val) then dot (fun d => q (ix4 0 0 r d)) (fun d => kl (ix3 0 j d)) else ⊥ := by
  pointwise [k0_pay171, k0_pay172, k0_pay173, k0_pay174, k0_pay175, dot]
  exact select_seen 1536 1472 j r (by omega) (by omega) _ _ mask_val

theorem past6a (q : Vec Ideal S1x1x256x256 .bf16) (kp : Vec Ideal S1x1536x256 .bf16) (r : Fin 256) (j : Fin 1536) : (k0_pay176 (k0_pay171 q) kp) (ix2 r j) = dot (fun d => q (ix4 0 0 r d)) (fun d => kp (ix3 0 j d)) := by
  pointwise [k0_pay171, k0_pay176, dot]

theorem fin6a (s : FVec Ideal S256x256 .f32) (p : FVec Ideal S256x1536 .f32) (vl : Vec Ideal S1x256x256 .bf16) (vp : Vec Ideal S1x1536x256 .bf16) (r : Fin 256) (n : Fin 128) :
    (k0_pay203 s p vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay203, row, acc, top]
  simp only [ninf]
  rfl

theorem tile6a (q : Vec Ideal S1x1x256x256 .bf16) (kl : Vec Ideal S1x256x256 .bf16) (kp : Vec Ideal S1x1536x256 .bf16) (vl : Vec Ideal S1x256x256 .bf16) (vp : Vec Ideal S1x1536x256 .bf16) (r : Fin 256) (n : Fin 128) :
    (k0_pay203 (k0_pay175 (k0_pay171 q) k0_pay172 64#32 k0_pay173 k0_pay174 ((Scalar.extui (Scalar.cmpi .sgt 64#32 0#32))) ((Scalar.cmpi .slt 64#32 0#32)) kl) (k0_pay176 (k0_pay171 q) kp) vl vp) (ix3 0 r n)
      = rowOf (C := 1536) (1472 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin6a]
  exact congrArg₂ (fun a b => row a b _ _ _ _) (funext fun j => last6a q kl r j) (funext fun j => past6a q kp r j)

/-! Rows 1472 to 1727, second head. -/

theorem last6b (q : Vec Ideal S1x1x256x256 .bf16) (kl : Vec Ideal S1x256x256 .bf16) (r : Fin 256) (j : Fin 256) :
    ((k0_pay201 k0_pay199 (k0_pay200 q kl) ((Named.named κ "mask" 0xF149F2CA#32))) : FVec Ideal S256x256 .f32) (ix2 r j) = if 1536 + j.val < vis (1472 + r.val) then dot (fun d => q (ix4 0 0 r d)) (fun d => kl (ix3 0 j d)) else ⊥ := by
  pointwise [k0_pay198, k0_pay199, k0_pay200, k0_pay201, dot]
  exact select_seen 1536 1472 j r (by omega) (by omega) _ _ mask_val

theorem past6b (q : Vec Ideal S1x1x256x256 .bf16) (kp : Vec Ideal S1x1536x256 .bf16) (r : Fin 256) (j : Fin 1536) : (k0_pay202 (k0_pay198 q) kp) (ix2 r j) = dot (fun d => q (ix4 0 0 r d)) (fun d => kp (ix3 0 j d)) := by
  pointwise [k0_pay198, k0_pay202, dot]

theorem fin6b (s : FVec Ideal S256x256 .f32) (p : FVec Ideal S256x1536 .f32) (vl : Vec Ideal S1x256x256 .bf16) (vp : Vec Ideal S1x1536x256 .bf16) (r : Fin 256) (n : Fin 128) :
    (k0_pay228 (k0_pay227 s p vl vp)) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay227, k0_pay228, row, acc, top]
  simp only [ninf]
  rfl

theorem tile6b (q : Vec Ideal S1x1x256x256 .bf16) (kl : Vec Ideal S1x256x256 .bf16) (kp : Vec Ideal S1x1536x256 .bf16) (vl : Vec Ideal S1x256x256 .bf16) (vp : Vec Ideal S1x1536x256 .bf16) (r : Fin 256) (n : Fin 128) :
    (k0_pay228 (k0_pay227 (k0_pay201 k0_pay199 (k0_pay200 q kl) ((Named.named κ "mask" 0xF149F2CA#32))) (k0_pay202 (k0_pay198 q) kp) vl vp)) (ix3 0 r n)
      = rowOf (C := 1536) (1472 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin6b]
  exact congrArg₂ (fun a b => row a b _ _ _ _) (funext fun j => last6b q kl r j) (funext fun j => past6b q kp r j)

/-! Rows 1728 to 1983, first head. -/

theorem last7a (q : Vec Ideal S1x1x256x256 .bf16) (kl : Vec Ideal S1x256x256 .bf16) (r : Fin 256) (j : Fin 256) :
    ((k0_pay93 (k0_pay88 q) k0_pay90 k0_pay91 k0_pay92 0#32 kl) : FVec Ideal S256x256 .f32) (ix2 r j) = if 1792 + j.val < vis (1728 + r.val) then dot (fun d => q (ix4 0 0 r d)) (fun d => kl (ix3 0 j d)) else ⊥ := by
  pointwise [k0_pay88, k0_pay89, k0_pay90, k0_pay91, k0_pay92, k0_pay93, dot]
  exact select_seen 1792 1728 j r (by omega) (by omega) _ _ mask_val

theorem past7a (q : Vec Ideal S1x1x256x256 .bf16) (kp : Vec Ideal S1x1792x256 .bf16) (r : Fin 256) (j : Fin 1792) : (k0_pay94 (k0_pay88 q) kp) (ix2 r j) = dot (fun d => q (ix4 0 0 r d)) (fun d => kp (ix3 0 j d)) := by
  pointwise [k0_pay88, k0_pay94, dot]

theorem fin7a (s : FVec Ideal S256x256 .f32) (p : FVec Ideal S256x1792 .f32) (vl : Vec Ideal S1x256x256 .bf16) (vp : Vec Ideal S1x1792x256 .bf16) (r : Fin 256) (n : Fin 128) :
    (k0_pay124 p (k0_pay122 s p ) (k0_pay123 s p ) vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay122, k0_pay123, k0_pay124, row, acc, top]
  simp only [ninf]
  rfl

theorem tile7a (q : Vec Ideal S1x1x256x256 .bf16) (kl : Vec Ideal S1x256x256 .bf16) (kp : Vec Ideal S1x1792x256 .bf16) (vl : Vec Ideal S1x256x256 .bf16) (vp : Vec Ideal S1x1792x256 .bf16) (r : Fin 256) (n : Fin 128) :
    (k0_pay124 (k0_pay94 (k0_pay88 q) kp) (k0_pay122 (k0_pay93 (k0_pay88 q) k0_pay90 k0_pay91 k0_pay92 0#32 kl) (k0_pay94 (k0_pay88 q) kp) ) (k0_pay123 (k0_pay93 (k0_pay88 q) k0_pay90 k0_pay91 k0_pay92 0#32 kl) (k0_pay94 (k0_pay88 q) kp) ) vl vp) (ix3 0 r n)
      = rowOf (C := 1792) (1728 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin7a]
  exact congrArg₂ (fun a b => row a b _ _ _ _) (funext fun j => last7a q kl r j) (funext fun j => past7a q kp r j)

/-! Rows 1728 to 1983, second head. -/

theorem last7b (q : Vec Ideal S1x1x256x256 .bf16) (kl : Vec Ideal S1x256x256 .bf16) (r : Fin 256) (j : Fin 256) :
    ((k0_pay120 (k0_pay116 q) k0_pay117 64#32 k0_pay118 k0_pay119 ((Scalar.extui (Scalar.cmpi .sgt 64#32 0#32))) 0#32 kl) : FVec Ideal S256x256 .f32) (ix2 r j) = if 1792 + j.val < vis (1728 + r.val) then dot (fun d => q (ix4 0 0 r d)) (fun d => kl (ix3 0 j d)) else ⊥ := by
  pointwise [k0_pay116, k0_pay117, k0_pay118, k0_pay119, k0_pay120, dot]
  exact select_seen 1792 1728 j r (by omega) (by omega) _ _ mask_val

theorem past7b (q : Vec Ideal S1x1x256x256 .bf16) (kp : Vec Ideal S1x1792x256 .bf16) (r : Fin 256) (j : Fin 1792) : (k0_pay121 (k0_pay116 q) kp) (ix2 r j) = dot (fun d => q (ix4 0 0 r d)) (fun d => kp (ix3 0 j d)) := by
  pointwise [k0_pay116, k0_pay121, dot]

theorem fin7b (s : FVec Ideal S256x256 .f32) (p : FVec Ideal S256x1792 .f32) (vl : Vec Ideal S1x256x256 .bf16) (vp : Vec Ideal S1x1792x256 .bf16) (r : Fin 256) (n : Fin 128) :
    (k0_pay138 s p vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay138, row, acc, top]
  simp only [ninf]
  rfl

theorem tile7b (q : Vec Ideal S1x1x256x256 .bf16) (kl : Vec Ideal S1x256x256 .bf16) (kp : Vec Ideal S1x1792x256 .bf16) (vl : Vec Ideal S1x256x256 .bf16) (vp : Vec Ideal S1x1792x256 .bf16) (r : Fin 256) (n : Fin 128) :
    (k0_pay138 (k0_pay120 (k0_pay116 q) k0_pay117 64#32 k0_pay118 k0_pay119 ((Scalar.extui (Scalar.cmpi .sgt 64#32 0#32))) 0#32 kl) (k0_pay121 (k0_pay116 q) kp) vl vp) (ix3 0 r n)
      = rowOf (C := 1792) (1728 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin7b]
  exact congrArg₂ (fun a b => row a b _ _ _ _) (funext fun j => last7b q kl r j) (funext fun j => past7b q kp r j)

/-! Rows 1984 to 2047, first head. -/

theorem last8a (q : Vec Ideal S1x1x64x256 .bf16) (kl : Vec Ideal S1x256x256 .bf16) (r : Fin 64) (j : Fin 256) :
    ((k0_pay23 (k0_pay19 q) k0_pay20 64#32 k0_pay21 k0_pay22 kl) : FVec Ideal S64x256 .f32) (ix2 r j) = if 2048 + j.val < vis (1984 + r.val) then dot (fun d => q (ix4 0 0 r d)) (fun d => kl (ix3 0 j d)) else ⊥ := by
  pointwise [k0_pay19, k0_pay20, k0_pay21, k0_pay22, k0_pay23, dot]
  exact select_seen 2048 1984 j r (by omega) (by omega) _ _ mask_val

theorem past8a (q : Vec Ideal S1x1x64x256 .bf16) (kp : Vec Ideal S1x2048x256 .bf16) (r : Fin 64) (j : Fin 2048) : (k0_pay24 (k0_pay19 q) kp) (ix2 r j) = dot (fun d => q (ix4 0 0 r d)) (fun d => kp (ix3 0 j d)) := by
  pointwise [k0_pay19, k0_pay24, dot]

theorem fin8a (s : FVec Ideal S64x256 .f32) (p : FVec Ideal S64x2048 .f32) (vl : Vec Ideal S1x256x256 .bf16) (vp : Vec Ideal S1x2048x256 .bf16) (r : Fin 64) (n : Fin 128) :
    (k0_pay30 s p vl vp) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay30, row, acc, top]
  simp only [ninf]
  rfl

theorem tile8a (q : Vec Ideal S1x1x64x256 .bf16) (kl : Vec Ideal S1x256x256 .bf16) (kp : Vec Ideal S1x2048x256 .bf16) (vl : Vec Ideal S1x256x256 .bf16) (vp : Vec Ideal S1x2048x256 .bf16) (r : Fin 64) (n : Fin 128) :
    (k0_pay30 (k0_pay23 (k0_pay19 q) k0_pay20 64#32 k0_pay21 k0_pay22 kl) (k0_pay24 (k0_pay19 q) kp) vl vp) (ix3 0 r n)
      = rowOf (C := 2048) (1984 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin8a]
  exact congrArg₂ (fun a b => row a b _ _ _ _) (funext fun j => last8a q kl r j) (funext fun j => past8a q kp r j)

/-! Rows 1984 to 2047, second head. -/

theorem last8b (q : Vec Ideal S1x1x64x256 .bf16) (kl : Vec Ideal S1x256x256 .bf16) (r : Fin 64) (j : Fin 256) :
    ((k0_pay28 k0_pay26 (k0_pay27 q kl) ((Named.named κ "mask" 0xF149F2CA#32))) : FVec Ideal S64x256 .f32) (ix2 r j) = if 2048 + j.val < vis (1984 + r.val) then dot (fun d => q (ix4 0 0 r d)) (fun d => kl (ix3 0 j d)) else ⊥ := by
  pointwise [k0_pay25, k0_pay26, k0_pay27, k0_pay28, dot]
  exact select_seen 2048 1984 j r (by omega) (by omega) _ _ mask_val

theorem past8b (q : Vec Ideal S1x1x64x256 .bf16) (kp : Vec Ideal S1x2048x256 .bf16) (r : Fin 64) (j : Fin 2048) : (k0_pay29 (k0_pay25 q) kp) (ix2 r j) = dot (fun d => q (ix4 0 0 r d)) (fun d => kp (ix3 0 j d)) := by
  pointwise [k0_pay25, k0_pay29, dot]

theorem fin8b (s : FVec Ideal S64x256 .f32) (p : FVec Ideal S64x2048 .f32) (vl : Vec Ideal S1x256x256 .bf16) (vp : Vec Ideal S1x2048x256 .bf16) (r : Fin 64) (n : Fin 128) :
    (k0_pay54 (k0_pay53 s p vl vp)) (ix3 0 r n) = row (fun j => s (ix2 r j)) (fun j => p (ix2 r j)) (fun j => vl (ix3 0 j (lo n))) (fun j => vl (ix3 0 j (hi n)))
      (fun j => vp (ix3 0 j (lo n))) (fun j => vp (ix3 0 j (hi n))) := by
  pointwise [k0_pay53, k0_pay54, row, acc, top]
  simp only [ninf]
  rfl

theorem tile8b (q : Vec Ideal S1x1x64x256 .bf16) (kl : Vec Ideal S1x256x256 .bf16) (kp : Vec Ideal S1x2048x256 .bf16) (vl : Vec Ideal S1x256x256 .bf16) (vp : Vec Ideal S1x2048x256 .bf16) (r : Fin 64) (n : Fin 128) :
    (k0_pay54 (k0_pay53 (k0_pay28 k0_pay26 (k0_pay27 q kl) ((Named.named κ "mask" 0xF149F2CA#32))) (k0_pay29 (k0_pay25 q) kp) vl vp)) (ix3 0 r n)
      = rowOf (C := 2048) (1984 + r.val) (fun d => q (ix4 0 0 r d)) (fun j d => kl (ix3 0 j d)) (fun j d => kp (ix3 0 j d)) (fun j => vl (ix3 0 j (lo n))) (fun j => vl (ix3 0 j (hi n)))
        (fun j => vp (ix3 0 j (lo n))) (fun j => vp (ix3 0 j (hi n))) := by
  rw [fin8b]
  exact congrArg₂ (fun a b => row a b _ _ _ _) (funext fun j => last8b q kl r j) (funext fun j => past8b q kp r j)

end Cert.KernelIdeal.Pay

end
-- ==== Proof.AttnOut.lean ====
/- The attention call: what a point writes to its result block, over its input blocks. -/
module

public import proofs.«01_k».proof.Proof.AttnPay1
public import proofs.«01_k».proof.Proof.AttnPay2
public import proofs.«01_k».proof.Proof.AttnPay3
public import proofs.«01_k».proof.Proof.AttnScr

@[expose] public section

set_option maxRecDepth 16384

noncomputable section

namespace Cert.KernelIdeal.Rows

open Idealize.ShloMosaic Idealize.ShloMosaic.TcCoe Idealize.ShloMosaic.Pipeline Cert.KernelIdeal Cert.KernelIdeal.Gen Cert.AttnSpec

section

variable (x0 : Vec Ideal S1x2x2048x256 .bf16) (x1 : Vec Ideal S1x2x2048x256 .bf16) (x2 : Vec Ideal S1x2048x256 .bf16) (x3 : Vec Ideal S1x2x16x256 .bf16)
  (x4 : Vec Ideal S1x16x256 .bf16)

/-- An entry of a frame's row, the last 256 keys from position `C` on. -/
def rowAt (C : ℕ) (g : Fin 2) (i : Fin 2048) (n : Fin 128) : EReal :=
  Pay.rowOf (C := C) i.val (fun d => x0 (ix4 0 g i d)) (fun j d => keyAt x1 x3 g (C + j.val) d) (fun j d => keyAt x1 x3 g (0 + j.val) d)
    (fun j => valAt x2 x4 g n (C + j.val)) (fun _ => 1) (fun j => valAt x2 x4 g n (0 + j.val)) (fun _ => 1)

theorem split3 (R : ℕ) (x : (⟨3, ![1, R, 128]⟩ : Shape).Idx) : ∃ (r : Fin R) (n : Fin 128), x = ix3 0 r n :=
  ⟨x 1, x 2, funext fun a => by fin_cases a; exacts [Subsingleton.elim (α := Fin 1) _ _, rfl, rfl]⟩

theorem readQuery (g o w : ℕ) (inb) (r : Fin w) (d : Fin 256) (e : Fin 2) (he : e.val = g) (i : Fin 2048) (hi : i.val = o + r.val) :
    View.ld x0 (Rect.unit (s := S1x2x2048x256) ![0, g, o, 0] ![1, 1, w, 256] inb) (ix4 0 0 r d) = x0 (ix4 0 e i d) := by
  refine congrArg x0 (funext fun a => Fin.ext ((Rect.idx_unit_val _ _ _ _ _).trans ?_))
  fin_cases a
  · rfl
  · exact he.symm
  · exact hi.symm
  · exact Nat.zero_add _

/-- A row over what the body reads, for the `w` frames from `o` on. -/
theorem row_read (C g o w : ℕ) (inb inbk inbp inbv inbw) (r : Fin w) (n : Fin 128) (e : Fin 2) (he : e.val = g) (i : Fin 2048) (hi : i.val = o + r.val) :
    Pay.rowOf (C := C) (o + r.val) (fun d => View.ld x0 (Rect.unit (s := S1x2x2048x256) ![0, g, o, 0] ![1, 1, w, 256] inb) (ix4 0 0 r d))
      (fun (j : Fin 256) d => (View.whole cc0_scratch0).readCov (keyPieces x1 x3) (Rect.unit (s := S2x2304x256) ![g, C, 0] ![1, 256, 256] inbk).toLoadRect (ix3 0 j d))
      (fun (j : Fin C) d => (View.whole cc0_scratch0).readCov (keyPieces x1 x3) (Rect.unit (s := S2x2304x256) ![g, 0, 0] ![1, C, 256] inbp).toLoadRect (ix3 0 j d))
      (fun (j : Fin 256) => (View.whole cc0_scratch1).readCov (valPieces x2 x4) (Rect.unit (s := S2x2304x256) ![g, C, 0] ![1, 256, 256] inbv).toLoadRect (ix3 0 j (Pay.lo n)))
      (fun (j : Fin 256) => (View.whole cc0_scratch1).readCov (valPieces x2 x4) (Rect.unit (s := S2x2304x256) ![g, C, 0] ![1, 256, 256] inbv).toLoadRect (ix3 0 j (Pay.hi n)))
      (fun (j : Fin C) => (View.whole cc0_scratch1).readCov (valPieces x2 x4) (Rect.unit (s := S2x2304x256) ![g, 0, 0] ![1, C, 256] inbw).toLoadRect (ix3 0 j (Pay.lo n)))
      (fun (j : Fin C) => (View.whole cc0_scratch1).readCov (valPieces x2 x4) (Rect.unit (s := S2x2304x256) ![g, 0, 0] ![1, C, 256] inbw).toLoadRect (ix3 0 j (Pay.hi n)))
      = rowAt x0 x1 x2 x3 x4 C e i n := by
  unfold rowAt
  simp only [readQuery x0 g o w inb r _ e he i hi, readKeys x1 x3 g _ _ _ _ _ e he, readVals x2 x4 g _ _ _ _ _ e he, readOnes x2 x4 g _ _ _ _ _ e he, hi]

/-- … and for the first frames, which have no keys before the last 256. -/
theorem row_read0 (g w : ℕ) (inb inbk inbv) (r : Fin w) (n : Fin 128) (e : Fin 2) (he : e.val = g) (i : Fin 2048) (hi : i.val = 0 + r.val) :
    Pay.rowOf (C := 0) (0 + r.val) (fun d => View.ld x0 (Rect.unit (s := S1x2x2048x256) ![0, g, 0, 0] ![1, 1, w, 256] inb) (ix4 0 0 r d))
      (fun (j : Fin 256) d => (View.whole cc0_scratch0).readCov (keyPieces x1 x3) (Rect.unit (s := S2x2304x256) ![g, 0, 0] ![1, 256, 256] inbk).toLoadRect (ix3 0 j d))
      Fin.elim0
      (fun (j : Fin 256) => (View.whole cc0_scratch1).readCov (valPieces x2 x4) (Rect.unit (s := S2x2304x256) ![g, 0, 0] ![1, 256, 256] inbv).toLoadRect (ix3 0 j (Pay.lo n)))
      (fun (j : Fin 256) => (View.whole cc0_scratch1).readCov (valPieces x2 x4) (Rect.unit (s := S2x2304x256) ![g, 0, 0] ![1, 256, 256] inbv).toLoadRect (ix3 0 j (Pay.hi n)))
      Fin.elim0 Fin.elim0 = rowAt x0 x1 x2 x3 x4 0 e i n := by
  unfold rowAt
  simp only [readQuery x0 g 0 w inb r _ e he i hi, readKeys x1 x3 g _ _ _ _ _ e he, readVals x2 x4 g _ _ _ _ _ e he, readOnes x2 x4 g _ _ _ _ _ e he, hi]
  congr 1 <;> exact funext fun j => j.elim0

/-- An entry of the block that the point writes. -/
def outRow (g : Fin 2) (i : Fin 2048) (n : Fin 128) : EReal := rowAt x0 x1 x2 x3 x4 (256 * ((i.val + 64) / 256)) g i n

theorem outRow_eq (C : ℕ) (g : Fin 2) (i : Fin 2048) (n : Fin 128) (h : C = 256 * ((i.val + 64) / 256)) :
    rowAt x0 x1 x2 x3 x4 C g i n = outRow x0 x1 x2 x3 x4 g i n := by
  subst h
  rfl

end

variable (m : (ℓ : Loc nD τ sig) → Buf (Elt Ideal) ℓ) (c : Dev nD)

set_option maxHeartbeats 1600000 in
theorem out_A (t : Fin cfg0.N) (ht : t.val % 32 = 0) (g : Fin 2) (i : Fin 2048) (n : Fin 128) :
    (outsAt0 m c t.val t.isLt).1 (ix3 0 i (col g n)) = outRow (iblk m c 0 t) (iblk m c 1 t) (iblk m c 2 t) (iblk m c 3 t) (iblk m c 4 t) g i n := by
  rw [outsAt0_A m c t ht]
  frame_out
  have hn := n.isLt
  have hg := g.isLt
  canon_tiles x k using View.cover_of_tiledBy _ ![1, 64, 128] (by sl_kernel_rfl) _
  · obtain ⟨r, q, rfl⟩ := split3 256 x
    have k2' : 128 * g.val + n.val = 128 + q.val := k2
    obtain rfl : g = 1 := Fin.ext (by omega)
    obtain rfl : n = q := Fin.ext (by omega)
    have k1' : i.val = 960 + r.val := k1
    refine Eq.trans ?_ (outRow_eq _ _ _ _ _ 1024 _ i n (by omega))
    have key := (Pay.tile4b _ _ _ _ _ r n).trans (row_read (iblk m c 0 t) (iblk m c 1 t) (iblk m c 2 t) (iblk m c 3 t) (iblk m c 4 t) 1024 1 960 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 960 + r.val := k1
    refine Eq.trans ?_ (outRow_eq _ _ _ _ _ 1024 _ i n (by omega))
    have key := (Pay.tile4a _ _ _ _ _ r n).trans (row_read (iblk m c 0 t) (iblk m c 1 t) (iblk m c 2 t) (iblk m c 3 t) (iblk m c 4 t) 1024 0 960 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 704 + r.val := k1
    refine Eq.trans ?_ (outRow_eq _ _ _ _ _ 768 _ i n (by omega))
    have key := (Pay.tile3b _ _ _ _ _ r n).trans (row_read (iblk m c 0 t) (iblk m c 1 t) (iblk m c 2 t) (iblk m c 3 t) (iblk m c 4 t) 768 1 704 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 704 + r.val := k1
    refine Eq.trans ?_ (outRow_eq _ _ _ _ _ 768 _ i n (by omega))
    have key := (Pay.tile3a _ _ _ _ _ r n).trans (row_read (iblk m c 0 t) (iblk m c 1 t) (iblk m c 2 t) (iblk m c 3 t) (iblk m c 4 t) 768 0 704 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 1216 + r.val := k1
    refine Eq.trans ?_ (outRow_eq _ _ _ _ _ 1280 _ i n (by omega))
    have key := (Pay.tile5b _ _ _ _ _ r n).trans (row_read (iblk m c 0 t) (iblk m c 1 t) (iblk m c 2 t) (iblk m c 3 t) (iblk m c 4 t) 1280 1 1216 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 1216 + r.val := k1
    refine Eq.trans ?_ (outRow_eq _ _ _ _ _ 1280 _ i n (by omega))
    have key := (Pay.tile5a _ _ _ _ _ r n).trans (row_read (iblk m c 0 t) (iblk m c 1 t) (iblk m c 2 t) (iblk m c 3 t) (iblk m c 4 t) 1280 0 1216 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 448 + r.val := k1
    refine Eq.trans ?_ (outRow_eq _ _ _ _ _ 512 _ i n (by omega))
    have key := (Pay.tile2b _ _ _ _ _ r n).trans (row_read (iblk m c 0 t) (iblk m c 1 t) (iblk m c 2 t) (iblk m c 3 t) (iblk m c 4 t) 512 1 448 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 448 + r.val := k1
    refine Eq.trans ?_ (outRow_eq _ _ _ _ _ 512 _ i n (by omega))
    have key := (Pay.tile2a _ _ _ _ _ r n).trans (row_read (iblk m c 0 t) (iblk m c 1 t) (iblk m c 2 t) (iblk m c 3 t) (iblk m c 4 t) 512 0 448 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 1472 + r.val := k1
    refine Eq.trans ?_ (outRow_eq _ _ _ _ _ 1536 _ i n (by omega))
    have key := (Pay.tile6b _ _ _ _ _ r n).trans (row_read (iblk m c 0 t) (iblk m c 1 t) (iblk m c 2 t) (iblk m c 3 t) (iblk m c 4 t) 1536 1 1472 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 1472 + r.val := k1
    refine Eq.trans ?_ (outRow_eq _ _ _ _ _ 1536 _ i n (by omega))
    have key := (Pay.tile6a _ _ _ _ _ r n).trans (row_read (iblk m c 0 t) (iblk m c 1 t) (iblk m c 2 t) (iblk m c 3 t) (iblk m c 4 t) 1536 0 1472 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 192 + r.val := k1
    refine Eq.trans ?_ (outRow_eq _ _ _ _ _ 256 _ i n (by omega))
    have key := (Pay.tile1b _ _ _ _ _ r n).trans (row_read (iblk m c 0 t) (iblk m c 1 t) (iblk m c 2 t) (iblk m c 3 t) (iblk m c 4 t) 256 1 192 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 192 + r.val := k1
    refine Eq.trans ?_ (outRow_eq _ _ _ _ _ 256 _ i n (by omega))
    have key := (Pay.tile1a _ _ _ _ _ r n).trans (row_read (iblk m c 0 t) (iblk m c 1 t) (iblk m c 2 t) (iblk m c 3 t) (iblk m c 4 t) 256 0 192 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 1728 + r.val := k1
    refine Eq.trans ?_ (outRow_eq _ _ _ _ _ 1792 _ i n (by omega))
    have key := (Pay.tile7b _ _ _ _ _ r n).trans (row_read (iblk m c 0 t) (iblk m c 1 t) (iblk m c 2 t) (iblk m c 3 t) (iblk m c 4 t) 1792 1 1728 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 1728 + r.val := k1
    refine Eq.trans ?_ (outRow_eq _ _ _ _ _ 1792 _ i n (by omega))
    have key := (Pay.tile7a _ _ _ _ _ r n).trans (row_read (iblk m c 0 t) (iblk m c 1 t) (iblk m c 2 t) (iblk m c 3 t) (iblk m c 4 t) 1792 0 1728 256 (by decide) (by decide) (by decide) (by decide) (by decide) r n 0 rfl i k1')
    exact key
  · obtain ⟨r, q, rfl⟩ := split3 192 x
    have k2' : 128 * g.val + n.val = 128 + q.val := k2
    obtain rfl : g = 1 := Fin.ext (by omega)
    obtain rfl : n = q := Fin.ext (by omega)
    have k1' : i.val = 0 + r.val := k1.trans (Nat.zero_add _).symm
    refine Eq.trans ?_ (outRow_eq _ _ _ _ _ 0 _ i n (by omega))
    have key := (Pay.tile0b _ _ _ r n).trans (row_read0 (iblk m c 0 t) (iblk m c 1 t) (iblk m c 2 t) (iblk m c 3 t) (iblk m c 4 t) 1 192 (by decide) (by decide) (by decide) r n 1 rfl i k1')
    exact key
  · obtain ⟨r, q, rfl⟩ := split3 192 x
    have k2' : 128 * g.val + n.val = 0 + q.val := k2.trans (Nat.zero_add _).symm
    obtain rfl : g = 0 := Fin.ext (by omega)
    obtain rfl : n = q := Fin.ext (by omega)
    have k1' : i.val = 0 + r.val := k1.trans (Nat.zero_add _).symm
    refine Eq.trans ?_ (outRow_eq _ _ _ _ _ 0 _ i n (by omega))
    have key := (Pay.tile0a _ _ _ r n).trans (row_read0 (iblk m c 0 t) (iblk m c 1 t) (iblk m c 2 t) (iblk m c 3 t) (iblk m c 4 t) 0 192 (by decide) (by decide) (by decide) r n 0 rfl i k1')
    exact key
  · obtain ⟨r, q, rfl⟩ := split3 64 x
    have k2' : 128 * g.val + n.val = 128 + q.val := k2
    obtain rfl : g = 1 := Fin.ext (by omega)
    obtain rfl : n = q := Fin.ext (by omega)
    have k1' : i.val = 1984 + r.val := k1
    refine Eq.trans ?_ (outRow_eq _ _ _ _ _ 2048 _ i n (by omega))
    have key := (Pay.tile8b _ _ _ _ _ r n).trans (row_read (iblk m c 0 t) (iblk m c 1 t) (iblk m c 2 t) (iblk m c 3 t) (iblk m c 4 t) 2048 1 1984 64 (by decide) (by decide) (by decide) (by decide) (by decide) r n 1 rfl i k1')
    exact key
  · obtain ⟨r, q, rfl⟩ := split3 64 x
    have k2' : 128 * g.val + n.val = 0 + q.val := k2.trans (Nat.zero_add _).symm
    obtain rfl : g = 0 := Fin.ext (by omega)
    obtain rfl : n = q := Fin.ext (by omega)
    have k1' : i.val = 1984 + r.val := k1
    refine Eq.trans ?_ (outRow_eq _ _ _ _ _ 2048 _ i n (by omega))
    have key := (Pay.tile8a _ _ _ _ _ r n).trans (row_read (iblk m c 0 t) (iblk m c 1 t) (iblk m c 2 t) (iblk m c 3 t) (iblk m c 4 t) 2048 0 1984 64 (by decide) (by decide) (by decide) (by decide) (by decide) r n 0 rfl i k1')
    exact key

set_option maxHeartbeats 1600000 in
theorem out_B (t : Fin cfg0.N) (ht : ¬ t.val % 32 = 0) (g : Fin 2) (i : Fin 2048) (n : Fin 128) :
    (outsAt0 m c t.val t.isLt).1 (ix3 0 i (col g n)) = outRow (iblk m c 0 t) (iblk m c 1 t) (iblk m c 2 t) (iblk m c 3 t) (iblk m c 4 t) g i n := by
  rw [outsAt0_B m c t ht]
  frame_out
  have hn := n.isLt
  have hg := g.isLt
  canon_tiles x k using View.cover_of_tiledBy _ ![1, 64, 128] (by sl_kernel_rfl) _
  · obtain ⟨r, q, rfl⟩ := split3 256 x
    have k2' : 128 * g.val + n.val = 128 + q.val := k2
    obtain rfl : g = 1 := Fin.ext (by omega)
    obtain rfl : n = q := Fin.ext (by omega)
    have k1' : i.val = 960 + r.val := k1
    refine Eq.trans ?_ (outRow_eq _ _ _ _ _ 1024 _ i n (by omega))
    have key := (Pay.tile4b _ _ _ _ _ r n).trans (row_read (iblk m c 0 t) (iblk m c 1 t) (iblk m c 2 t) (iblk m c 3 t) (iblk m c 4 t) 1024 1 960 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 960 + r.val := k1
    refine Eq.trans ?_ (outRow_eq _ _ _ _ _ 1024 _ i n (by omega))
    have key := (Pay.tile4a _ _ _ _ _ r n).trans (row_read (iblk m c 0 t) (iblk m c 1 t) (iblk m c 2 t) (iblk m c 3 t) (iblk m c 4 t) 1024 0 960 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 704 + r.val := k1
    refine Eq.trans ?_ (outRow_eq _ _ _ _ _ 768 _ i n (by omega))
    have key := (Pay.tile3b _ _ _ _ _ r n).trans (row_read (iblk m c 0 t) (iblk m c 1 t) (iblk m c 2 t) (iblk m c 3 t) (iblk m c 4 t) 768 1 704 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 704 + r.val := k1
    refine Eq.trans ?_ (outRow_eq _ _ _ _ _ 768 _ i n (by omega))
    have key := (Pay.tile3a _ _ _ _ _ r n).trans (row_read (iblk m c 0 t) (iblk m c 1 t) (iblk m c 2 t) (iblk m c 3 t) (iblk m c 4 t) 768 0 704 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 1216 + r.val := k1
    refine Eq.trans ?_ (outRow_eq _ _ _ _ _ 1280 _ i n (by omega))
    have key := (Pay.tile5b _ _ _ _ _ r n).trans (row_read (iblk m c 0 t) (iblk m c 1 t) (iblk m c 2 t) (iblk m c 3 t) (iblk m c 4 t) 1280 1 1216 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 1216 + r.val := k1
    refine Eq.trans ?_ (outRow_eq _ _ _ _ _ 1280 _ i n (by omega))
    have key := (Pay.tile5a _ _ _ _ _ r n).trans (row_read (iblk m c 0 t) (iblk m c 1 t) (iblk m c 2 t) (iblk m c 3 t) (iblk m c 4 t) 1280 0 1216 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 448 + r.val := k1
    refine Eq.trans ?_ (outRow_eq _ _ _ _ _ 512 _ i n (by omega))
    have key := (Pay.tile2b _ _ _ _ _ r n).trans (row_read (iblk m c 0 t) (iblk m c 1 t) (iblk m c 2 t) (iblk m c 3 t) (iblk m c 4 t) 512 1 448 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 448 + r.val := k1
    refine Eq.trans ?_ (outRow_eq _ _ _ _ _ 512 _ i n (by omega))
    have key := (Pay.tile2a _ _ _ _ _ r n).trans (row_read (iblk m c 0 t) (iblk m c 1 t) (iblk m c 2 t) (iblk m c 3 t) (iblk m c 4 t) 512 0 448 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 1472 + r.val := k1
    refine Eq.trans ?_ (outRow_eq _ _ _ _ _ 1536 _ i n (by omega))
    have key := (Pay.tile6b _ _ _ _ _ r n).trans (row_read (iblk m c 0 t) (iblk m c 1 t) (iblk m c 2 t) (iblk m c 3 t) (iblk m c 4 t) 1536 1 1472 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 1472 + r.val := k1
    refine Eq.trans ?_ (outRow_eq _ _ _ _ _ 1536 _ i n (by omega))
    have key := (Pay.tile6a _ _ _ _ _ r n).trans (row_read (iblk m c 0 t) (iblk m c 1 t) (iblk m c 2 t) (iblk m c 3 t) (iblk m c 4 t) 1536 0 1472 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 192 + r.val := k1
    refine Eq.trans ?_ (outRow_eq _ _ _ _ _ 256 _ i n (by omega))
    have key := (Pay.tile1b _ _ _ _ _ r n).trans (row_read (iblk m c 0 t) (iblk m c 1 t) (iblk m c 2 t) (iblk m c 3 t) (iblk m c 4 t) 256 1 192 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 192 + r.val := k1
    refine Eq.trans ?_ (outRow_eq _ _ _ _ _ 256 _ i n (by omega))
    have key := (Pay.tile1a _ _ _ _ _ r n).trans (row_read (iblk m c 0 t) (iblk m c 1 t) (iblk m c 2 t) (iblk m c 3 t) (iblk m c 4 t) 256 0 192 256 (by decide) (by decide) (by decide) (by decide) (by decide) r n 0 rfl i k1')
    exact key
  · obtain ⟨r, q, rfl⟩ := split3 256 x
    have k2' : 128 * g.val + n.val = 128 + q.val := k2
    obtain rfl : g = 1 := Fin.ext (by omega)
    obtain rfl : n = q := Fin.ext (by omega)
    have k1' : i.val = 1728 + r.val := k1
    refine Eq.trans ?_ (outRow_eq _ _ _ _ _ 1792 _ i n (by omega))
    have key := (Pay.tile7b _ _ _ _ _ r n).trans (row_read (iblk m c 0 t) (iblk m c 1 t) (iblk m c 2 t) (iblk m c 3 t) (iblk m c 4 t) 1792 1 1728 256 (by decide) (by decide) (by decide) (by decide) (by decide) r n 1 rfl i k1')
    exact key
  · obtain ⟨r, q, rfl⟩ := split3 256 x
    have k2' : 128 * g.val + n.val = 0 + q.val := k2.trans (Nat.zero_add _).symm
    obtain rfl : g = 0 := Fin.ext (by omega)
    obtain rfl : n = q := Fin.ext (by omega)
    have k1' : i.val = 1728 + r.val := k1
    refine Eq.trans ?_ (outRow_eq _ _ _ _ _ 1792 _ i n (by omega))
    have key := (Pay.tile7a _ _ _ _ _ r n).trans (row_read (iblk m c 0 t) (iblk m c 1 t) (iblk m c 2 t) (iblk m c 3 t) (iblk m c 4 t) 1792 0 1728 256 (by decide) (by decide) (by decide) (by decide) (by decide) r n 0 rfl i k1')
    exact key
  · obtain ⟨r, q, rfl⟩ := split3 192 x
    have k2' : 128 * g.val + n.val = 128 + q.val := k2
    obtain rfl : g = 1 := Fin.ext (by omega)
    obtain rfl : n = q := Fin.ext (by omega)
    have k1' : i.val = 0 + r.val := k1.trans (Nat.zero_add _).symm
    refine Eq.trans ?_ (outRow_eq _ _ _ _ _ 0 _ i n (by omega))
    have key := (Pay.tile0b _ _ _ r n).trans (row_read0 (iblk m c 0 t) (iblk m c 1 t) (iblk m c 2 t) (iblk m c 3 t) (iblk m c 4 t) 1 192 (by decide) (by decide) (by decide) r n 1 rfl i k1')
    exact key
  · obtain ⟨r, q, rfl⟩ := split3 192 x
    have k2' : 128 * g.val + n.val = 0 + q.val := k2.trans (Nat.zero_add _).symm
    obtain rfl : g = 0 := Fin.ext (by omega)
    obtain rfl : n = q := Fin.ext (by omega)
    have k1' : i.val = 0 + r.val := k1.trans (Nat.zero_add _).symm
    refine Eq.trans ?_ (outRow_eq _ _ _ _ _ 0 _ i n (by omega))
    have key := (Pay.tile0a _ _ _ r n).trans (row_read0 (iblk m c 0 t) (iblk m c 1 t) (iblk m c 2 t) (iblk m c 3 t) (iblk m c 4 t) 0 192 (by decide) (by decide) (by decide) r n 0 rfl i k1')
    exact key
  · obtain ⟨r, q, rfl⟩ := split3 64 x
    have k2' : 128 * g.val + n.val = 128 + q.val := k2
    obtain rfl : g = 1 := Fin.ext (by omega)
    obtain rfl : n = q := Fin.ext (by omega)
    have k1' : i.val = 1984 + r.val := k1
    refine Eq.trans ?_ (outRow_eq _ _ _ _ _ 2048 _ i n (by omega))
    have key := (Pay.tile8b _ _ _ _ _ r n).trans (row_read (iblk m c 0 t) (iblk m c 1 t) (iblk m c 2 t) (iblk m c 3 t) (iblk m c 4 t) 2048 1 1984 64 (by decide) (by decide) (by decide) (by decide) (by decide) r n 1 rfl i k1')
    exact key
  · obtain ⟨r, q, rfl⟩ := split3 64 x
    have k2' : 128 * g.val + n.val = 0 + q.val := k2.trans (Nat.zero_add _).symm
    obtain rfl : g = 0 := Fin.ext (by omega)
    obtain rfl : n = q := Fin.ext (by omega)
    have k1' : i.val = 1984 + r.val := k1
    refine Eq.trans ?_ (outRow_eq _ _ _ _ _ 2048 _ i n (by omega))
    have key := (Pay.tile8a _ _ _ _ _ r n).trans (row_read (iblk m c 0 t) (iblk m c 1 t) (iblk m c 2 t) (iblk m c 3 t) (iblk m c 4 t) 2048 0 1984 64 (by decide) (by decide) (by decide) (by decide) (by decide) r n 0 rfl i k1')
    exact key

end Cert.KernelIdeal.Rows

end
-- ==== Proof.AttnRef.lean ====
/- The reference of the attention call: its result, read at an index. -/
module

public import proofs.«01_k».proof.Proof.AttnSpec
public import proofs.«01_k».proof.Proof.Gen.ReferenceIdeal.Read

@[expose] public section

set_option maxRecDepth 16384

noncomputable section

namespace Cert.ReferenceIdeal.Rows

open Idealize.ShloMosaic Cert.ReferenceIdeal Cert.ReferenceIdeal.Gen Cert.ReferenceIdeal.Read Cert.AttnSpec

variable (x0 x1 : (⟨S16x2048x4x192, .f32⟩ : BufTy).Contents (Elt Ideal)) (x2 : (⟨S16x2048x4x128, .f32⟩ : BufTy).Contents (Elt Ideal)) (x3 : (⟨S16x4x192, .f32⟩ : BufTy).Contents (Elt Ideal)) (x4 : (⟨S16x4x128, .f32⟩ : BufTy).Contents (Elt Ideal))
variable (b : Fin 16) (h : Fin 4)

theorem keys (p : Fin 2064) (d : Fin 192) : val_main_v2 (F := Ideal) x1 x3 (ix4 b p h d)
    = if hp : p.val < 16 then x3 (ix3 ⟨p, hp⟩ h d) else x1 (ix4 b ⟨p.val - 16, by omega⟩ h d) := by
  pointwise [val_main_v0, val_main_v1, val_main_v2]

theorem vals (p : Fin 2064) (d : Fin 128) : val_main_v5 (F := Ideal) x2 x4 (ix4 b p h d)
    = if hp : p.val < 16 then x4 (ix3 ⟨p, hp⟩ h d) else x2 (ix4 b ⟨p.val - 16, by omega⟩ h d) := by
  pointwise [val_main_v3, val_main_v4, val_main_v5]

/-- The sign of a word. -/
def sgn (x : BitVec 32) : BitVec 32 := if x = 0 then 0 else if x.msb = true then -1 else 1

/-- The chunk of a key: the meta tokens have the number 0, the first 64 frames the number 1. -/
def chunk (x : BitVec 32) : BitVec 32 :=
  Scalar.select
    (IntOp.andi (IntOp.cmpi .ne (sgn (IntOp.addi x 48#32)) (sgn 64#32)) (IntOp.cmpi .ne (IntOp.remsi .host (IntOp.addi x 48#32) 64#32) 0#32))
    (IntOp.subi (IntOp.divsi .host (IntOp.addi x 48#32) 64#32) 1#32) (IntOp.divsi .host (IntOp.addi x 48#32) 64#32)

theorem chunk_fin : ∀ p : Fin 2064, chunk (BitVec.ofNat 32 p.val) = BitVec.ofNat 32 ((p.val + 48) / 64) := by
  decide +kernel

theorem chunkId (p : Fin 2064) : val_main_v9 (F := Ideal) (ix1 p) = BitVec.ofNat 32 ((p.val + 48) / 64) := by
  rw [← chunk_fin p]
  pointwise [val_main_v6, val_main_v7, val_main_v8, val_main_v9, val_main_c, val_main_c_0, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0]
  rfl

theorem sle_ofNat (a b : ℕ) (ha : a < 4096) (hb : b < 4096) : (BitVec.ofNat 32 a).sle (BitVec.ofNat 32 b) = decide (a ≤ b) := by
  have e : ∀ n < 4096, (BitVec.ofNat 32 n).toInt = (n : ℤ) := fun n hn => by
    rw [BitVec.toInt_eq_toNat_of_lt] <;> rw [BitVec.toNat_ofNat, Nat.mod_eq_of_lt (by omega)]
    omega
  rw [BitVec.sle_eq_decide, e a ha, e b hb]
  simp

theorem mask (i : Fin 2048) (p : Fin 2064) : val_main_v20 (F := Ideal) (ix4 0 0 i p) = BitVec.ofBool (decide (p.val < vis i.val)) := by
  pointwise [val_main_v14, val_main_v15, val_main_v16, val_main_v17, val_main_v18, val_main_v19, val_main_v20, chunkId]
  refine congrArg BitVec.ofBool ((sle_ofNat _ _ (by omega) (by omega)).trans (decide_eq_decide.mpr ?_))
  simp only [vis]
  omega

/-- A key and a value by their position: the meta tokens first, then the frames. -/
def key (p : Fin 2064) (d : Fin 192) : EReal := if hp : p.val < 16 then x3 (ix3 ⟨p, hp⟩ h d) else x1 (ix4 b ⟨p.val - 16, by omega⟩ h d)
def val (p : Fin 2064) (d : Fin 128) : EReal := if hp : p.val < 16 then x4 (ix3 ⟨p, hp⟩ h d) else x2 (ix4 b ⟨p.val - 16, by omega⟩ h d)

theorem ninf : Ideal.ofBits .f32 0xFF800000#32 = ⊥ := by simp [Ideal.ofBits, Ideal.ieee]

theorem root : Ideal.sqrt (Ideal.ofBits .f32 0x43400000#32) = ((Real.sqrt 192 : ℝ) : EReal) := by
  rw [show Ideal.ofBits .f32 0x43400000#32 = ((192 : ℝ) : EReal) by simp [Ideal.ofBits, Ideal.ieee, -EReal.coe_mul]; norm_num]
  simp

/-- One score: the product over the root of 192, or no weight at all. -/
def score (i : Fin 2048) (p : Fin 2064) : EReal :=
  if p.val < vis i.val then Ideal.div (dot (fun d => x0 (ix4 b i h d)) (key x1 x3 b h p)) ((Real.sqrt 192 : ℝ) : EReal) else ⊥

theorem quotient (i : Fin 2048) (p : Fin 2064) : val_main_v13 (F := Ideal) x0 x1 x3 (ix4 b h i p)
    = Ideal.div (dot (fun d => x0 (ix4 b i h d)) (key x1 x3 b h p)) ((Real.sqrt 192 : ℝ) : EReal) := by
  pointwise [val_main_v10, val_main_cst, val_main_v11, val_main_v12, val_main_v13, keys, root]
  unfold dot key
  by_cases hm : p.val < 16 <;> simp [hm]

theorem scores (i : Fin 2048) (p : Fin 2064) : val_main_v21 (F := Ideal) x0 x1 x3 (ix4 b h i p) = score x0 x1 x3 b h i p := by
  pointwise [val_main_v21, val_main_cst_1, val_main_call1_v1, val_main_call1_v2, val_main_call1_v0, mask, quotient]
  unfold score
  by_cases hp : p.val < vis i.val
  · simp [Scalar.select, hp]
  · simp only [Scalar.select, hp, decide_false]
    exact ninf

theorem rowMax (y : FVec Ideal S16x4x2048x2064 .f32) (i : Fin 2048) :
    Host.reduce FloatOps.maximumf y (val_main_cst_2 (F := Ideal)) reducesTo_S16x4x2048x2064_S16x4x2048_d3 h_S_ (ix3 b h i) = Finset.univ.fold max ⊥ fun p => y (ix4 b h i p) := by
  rw [← ninf]
  pointwise [val_main_cst_2]

theorem top (i : Fin 2048) : val_main_v24 (F := Ideal) x0 x1 x3 (ix3 b h i) = Finset.univ.fold max ⊥ (score x0 x1 x3 b h i) := by
  have e : val_main_v22 (F := Ideal) x0 x1 x3 (ix3 b h i) = Finset.univ.fold max ⊥ (score x0 x1 x3 b h i) := by
    unfold val_main_v22
    rw [rowMax]
    exact congrArg (Finset.univ.fold max ⊥) (funext fun p => scores x0 x1 x3 b h i p)
  have e' : val_main_v23 (F := Ideal) (ix3 b h i) = ⊥ := by
    pointwise [val_main_v23, val_main_cst_3, ninf]
  rw [val_main_v24_apply, e, e']
  exact max_eq_right bot_le

theorem weight (i : Fin 2048) (p : Fin 2064) : val_main_v28 (F := Ideal) x0 x1 x3 (ix4 b h i p)
    = Ideal.exp (score x0 x1 x3 b h i p - Finset.univ.fold max ⊥ (score x0 x1 x3 b h i)) := by
  pointwise [val_main_v25, val_main_v26, val_main_v27, val_main_v28, scores, top]

theorem weighed (i : Fin 2048) (p : Fin 2064) : val_main_v32 (F := Ideal) x0 x1 x3 (ix4 b h i p)
    = Ideal.div (Ideal.exp (score x0 x1 x3 b h i p - Finset.univ.fold max ⊥ (score x0 x1 x3 b h i)))
        (∑ p, Ideal.exp (score x0 x1 x3 b h i p - Finset.univ.fold max ⊥ (score x0 x1 x3 b h i))) := by
  pointwise [val_main_cst_4, val_main_v29, val_main_v30, val_main_v31, val_main_v32, weight]

theorem mean (i : Fin 2048) (n : Fin 128) (w : FVec Ideal S16x4x2048x2064 .f32) (v : FVec Ideal S16x2064x4x128 .f32) :
    Host.dotGeneral dot_S16x4x2048x2064_S16x2064x4x128_S16x4x2048x128_3_1_2_3_01_02 none w v (ix4 b h i n) = ∑ p, w (ix4 b h i p) * v (ix4 b p h n) := by
  pointwise

theorem head (i : Fin 2048) (n : Fin 128) : val_main_v33 (F := Ideal) x0 x1 x2 x3 x4 (ix4 b h i n)
    = ∑ p, Ideal.div (Ideal.exp (score x0 x1 x3 b h i p - Finset.univ.fold max ⊥ (score x0 x1 x3 b h i)))
        (∑ p, Ideal.exp (score x0 x1 x3 b h i p - Finset.univ.fold max ⊥ (score x0 x1 x3 b h i))) * val x2 x4 b h p n := by
  unfold val_main_v33
  rw [mean]
  exact Finset.sum_congr rfl fun p _ => congrArg₂ (· * ·) (weighed x0 x1 x3 b h i p) (vals x2 x4 b h p n)

theorem result (i : Fin 2048) (n : Fin 128) (o : Fin 512) (ho : o.val = h.val * 128 + n.val) : val_main_v36 (F := Ideal) x0 x1 x2 x3 x4 (ix3 b i o)
    = ∑ p, Ideal.div (Ideal.exp (score x0 x1 x3 b h i p - Finset.univ.fold max ⊥ (score x0 x1 x3 b h i)))
        (∑ p, Ideal.exp (score x0 x1 x3 b h i p - Finset.univ.fold max ⊥ (score x0 x1 x3 b h i))) * val x2 x4 b h p n := by
  obtain ⟨o, ho'⟩ := o
  subst ho
  rw [← head]
  pointwise [val_main_v34, val_main_v35, val_main_v36]

end Cert.ReferenceIdeal.Rows

end
-- ==== Proof.AttnMean.lean ====
/- The attention call: over finite queries and keys, a row as the body computes it and the reference's row are the same weighted mean. -/
module

public import proofs.«01_k».proof.Proof.AttnOut
public import proofs.«01_k».proof.Proof.AttnRef

@[expose] public section

set_option maxRecDepth 16384

noncomputable section

namespace Cert.AttnSpec

open Idealize.ShloMosaic

/-- A score of a finite query and a finite key: the product over the root of the width. -/
def level (a : Fin 192 → ℝ) (K : ℕ → Fin 192 → ℝ) (p : ℕ) : ℝ := (∑ d, a d * K p d) / Real.sqrt 192

theorem coe_sum_fin {n : ℕ} (f : Fin n → ℝ) : ∑ d, (f d : EReal) = ((∑ d, f d : ℝ) : EReal) := by
  induction n with
  | zero => simp
  | succ n ih => rw [Fin.sum_univ_succ, Fin.sum_univ_succ, ih, EReal.coe_add]

theorem dot_coe {n : ℕ} (a b : Fin n → ℝ) : dot (fun d => (a d : EReal)) (fun d => (b d : EReal)) = ((∑ d, a d * b d : ℝ) : EReal) := by
  rw [← coe_sum_fin]
  exact Finset.sum_congr rfl fun d _ => (EReal.coe_mul _ _).symm

/-- The zeros a query and a key are padded with do not count, and the query's divisor divides the product. -/
theorem dot_pad (a b : Fin 192 → ℝ) (r : ℝ) (hr : r ≠ 0) (q k : Fin 256 → EReal)
    (hq : ∀ d, q d = if e : d.val < 192 then Ideal.div (a ⟨d.val, e⟩ : EReal) (r : EReal) else 0)
    (hk : ∀ d, k d = if e : d.val < 192 then (b ⟨d.val, e⟩ : EReal) else 0) : dot q k = (((∑ d, a d * b d) / r : ℝ) : EReal) := by
  have hl : ∀ d : Fin 192, q (Fin.castAdd 64 d) * k (Fin.castAdd 64 d) = ((a d * b d / r : ℝ) : EReal) := fun d => by
    rw [hq, hk, dif_pos (show (Fin.castAdd 64 d).val < 192 from d.isLt), dif_pos (show (Fin.castAdd 64 d).val < 192 from d.isLt), Ideal.div_coe hr, ← EReal.coe_mul,
      ← EReal.coe_mul]
    refine congrArg _ ?_
    show a d * (1 / r) * b d = a d * b d / r
    ring
  have hh : ∀ d : Fin 64, q (Fin.natAdd 192 d) * k (Fin.natAdd 192 d) = 0 := fun d => by
    rw [hq, dif_neg (show ¬ (Fin.natAdd 192 d).val < 192 from Nat.not_lt.mpr (Nat.le_add_right 192 d.val)), zero_mul]
  have e : dot q k = ∑ d : Fin (192 + 64), q d * k d := rfl
  rw [e, Fin.sum_univ_add, Finset.sum_congr rfl fun d _ => hl d, Finset.sum_congr rfl fun d _ => hh d, Finset.sum_const_zero, add_zero, coe_sum_fin, Finset.sum_div]

end Cert.AttnSpec

namespace Cert.KernelIdeal.Rows

open Idealize.ShloMosaic Cert.KernelIdeal Cert.KernelIdeal.Gen Cert.AttnSpec

/-- The row of a frame: queries and keys padded with zeros, the query divided by the root of the width and by `log 2`. -/
theorem row_mean (x0 x1 : Vec Ideal S1x2x2048x256 .bf16) (x2 : Vec Ideal S1x2048x256 .bf16) (x3 : Vec Ideal S1x2x16x256 .bf16) (x4 : Vec Ideal S1x16x256 .bf16)
    (g : Fin 2) (i : Fin 2048) (n : Fin 128) (a : Fin 192 → ℝ) (K : ℕ → Fin 192 → ℝ) (W : ℕ → EReal)
    (hq : ∀ d : Fin 256, x0 (ix4 0 g i d) = if e : d.val < 192 then Ideal.div (a ⟨d.val, e⟩ : EReal) ((Real.sqrt 192 * Real.log 2 : ℝ) : EReal) else 0)
    (hk : ∀ p < 2064, ∀ d : Fin 256, keyAt x1 x3 g p d = if e : d.val < 192 then (K p ⟨d.val, e⟩ : EReal) else 0)
    (hv : ∀ p, valAt x2 x4 g n p = W p) :
    outRow x0 x1 x2 x3 x4 g i n = att (vis i.val) (fun p => Real.exp (level a K p)) W := by
  have hi := i.isLt
  have hr : Real.sqrt 192 * Real.log 2 ≠ 0 := mul_ne_zero (Real.sqrt_pos.mpr (by norm_num)).ne' (Real.log_pos one_lt_two).ne'
  have hn : vis i.val ≤ 2064 := by unfold vis; omega
  have hC : 256 * ((i.val + 64) / 256) < vis i.val := by unfold vis; omega
  have hs : ∀ p < vis i.val, dot (fun d => x0 (ix4 0 g i d)) (fun d => keyAt x1 x3 g p d)
      = (((∑ d, a d * K p d) / (Real.sqrt 192 * Real.log 2) : ℝ) : EReal) := fun p hp =>
    dot_pad a (K p) _ hr _ _ hq (hk p (lt_of_lt_of_le hp hn))
  refine Eq.trans (row_eq (256 * ((i.val + 64) / 256)) (vis i.val) hC (by unfold vis; omega)
    (fun p => (∑ d, a d * K p d) / (Real.sqrt 192 * Real.log 2)) W _ _ _ _ _ _ ?_ ?_ ?_ ?_ ?_ ?_) (att_base _ _ _ _ ?_)
  · intro j
    unfold masked
    split
    · exact hs _ ‹_›
    · rfl
  · intro j
    have hj : j.val < vis i.val := lt_trans j.isLt hC
    unfold masked
    rw [if_pos hj]
    simp only [Nat.zero_add]
    exact hs _ hj
  · exact fun j => hv _
  · exact fun j => by rw [Nat.zero_add]; exact hv _
  · exact fun _ => rfl
  · exact fun _ => rfl
  · exact fun p _ => (div_div _ _ _).symm

end Cert.KernelIdeal.Rows

namespace Cert.ReferenceIdeal.Rows

open Idealize.ShloMosaic Cert.ReferenceIdeal Cert.ReferenceIdeal.Gen Cert.ReferenceIdeal.Read Cert.AttnSpec

/-- The reference's row. -/
theorem row_mean (x0 x1 : (⟨S16x2048x4x192, .f32⟩ : BufTy).Contents (Elt Ideal)) (x2 : (⟨S16x2048x4x128, .f32⟩ : BufTy).Contents (Elt Ideal))
    (x3 : (⟨S16x4x192, .f32⟩ : BufTy).Contents (Elt Ideal)) (x4 : (⟨S16x4x128, .f32⟩ : BufTy).Contents (Elt Ideal))
    (b : Fin 16) (h : Fin 4) (i : Fin 2048) (n : Fin 128) (o : Fin 512) (ho : o.val = h.val * 128 + n.val)
    (a : Fin 192 → ℝ) (K : ℕ → Fin 192 → ℝ) (W : ℕ → EReal) (hq : ∀ d, x0 (ix4 b i h d) = a d)
    (hk : ∀ (p : Fin 2064) d, key x1 x3 b h p d = K p.val d) (hv : ∀ p : Fin 2064, val x2 x4 b h p n = W p.val) :
    val_main_v36 (F := Ideal) x0 x1 x2 x3 x4 (ix3 b i o) = att (vis i.val) (fun p => Real.exp (level a K p)) W := by
  have hi := i.isLt
  refine (result x0 x1 x2 x3 x4 b h i n o ho).trans (softmax_eq 2064 (vis i.val) (by unfold vis; omega) (by unfold vis; omega) (level a K) W _ _ (fun p => ?_) hv)
  unfold score masked
  rw [show (fun d => x0 (ix4 b i h d)) = fun d => (a d : EReal) from funext hq, show key x1 x3 b h p = fun d => (K p.val d : EReal) from funext (hk p), dot_coe,
    Ideal.div_coe (Real.sqrt_pos.mpr (by norm_num)).ne', ← EReal.coe_mul, mul_one_div]
  rfl

end Cert.ReferenceIdeal.Rows

end
-- ==== Proof.AttnValue.lean ====
/- The attention call: what its result array holds after the run, over the argument arrays. -/
module

public import proofs.«01_k».proof.Proof.AttnIn
public import proofs.«01_k».proof.Proof.AttnMean

@[expose] public section

set_option maxRecDepth 16384

noncomputable section

namespace Cert.KernelIdeal.Rows

open Idealize.ShloMosaic Idealize.ShloMosaic.TcCoe Idealize.ShloMosaic.Pipeline Cert.KernelIdeal Cert.KernelIdeal.Gen Cert.AttnSpec

/-- A padded column of the meta tokens' and of the frames' entries is their column padded. -/
theorem cat_dite (n : ℕ) (P : Prop) [Decidable P] (mt : P → Fin 16 → EReal) (fr : P → Fin 2048 → EReal) :
    cat (fun p => if e : P then mt e p else 0) (fun p => if e : P then fr e p else 0) n = if e : P then cat (mt e) (fr e) n else 0 := by
  by_cases e : P
  · simp only [dif_pos e]
  · simp only [dif_neg e]
    unfold cat
    split <;> try split
    all_goals rfl

variable (m : (ℓ : Loc nD τ sig) → Buf (Elt Ideal) ℓ) (c : Dev nD) (b : Fin 16) (h : Fin 4)

/-- A head's keys and values by their position: the meta tokens first, then the frames of the sequence. -/
def keyOf (p : ℕ) (d : Fin 192) : EReal :=
  cat (fun p => m ((c : Thread nD τ).loc main_arg3) (ix3 p h d)) (fun p => m ((c : Thread nD τ).loc main_arg1) (ix4 b p h d)) p
def valOf (n : Fin 128) (p : ℕ) : EReal :=
  cat (fun p => m ((c : Thread nD τ).loc main_arg4) (ix3 p h n)) (fun p => m ((c : Thread nD τ).loc main_arg2) (ix4 b p h n)) p

/-- An entry of the result: the mean of the values a frame sees, weighed by the exponentials of its scores. -/
def meanOf (i : Fin 2048) (n : Fin 128) : EReal :=
  att (vis i.val) (fun p => Real.exp (level (fun d => (m ((c : Thread nD τ).loc main_arg0) (ix4 b i h d)).toReal) (fun p d => (keyOf m c b h p d).toReal) p))
    (valOf m c b h n)

/-- What the result array ends with. -/
def result : S16x2048x512.Idx → EReal := fun o =>
  meanOf m c (o 0) ⟨(o 2).val / 128, Nat.div_lt_of_lt_mul (o 2).isLt⟩ (o 1) ⟨(o 2).val % 128, Nat.mod_lt _ (by decide)⟩

/-- The queries and the keys are finite. -/
def Finite : Prop :=
  (∀ i d, m ((c : Thread nD τ).loc main_arg0) (ix4 b i h d) = (((m ((c : Thread nD τ).loc main_arg0) (ix4 b i h d)).toReal : ℝ) : EReal))
    ∧ ∀ p < 2064, ∀ d, keyOf m c b h p d = (((keyOf m c b h p d).toReal : ℝ) : EReal)

theorem point_row (hf : Finite m c b h) (t : Fin cfg0.N) (g : Fin 2) (hb : b.val = t.val / 2) (hh : h.val = 2 * (t.val % 2) + g.val)
    (i : Fin 2048) (n : Fin 128) :
    outRow (iblk m c 0 t) (iblk m c 1 t) (iblk m c 2 t) (iblk m c 3 t) (iblk m c 4 t) g i n = meanOf m c b h i n := by
  refine row_mean _ _ _ _ _ g i n _ _ _ (fun d => ?_) (fun p hp d => ?_) fun p => ?_
  · refine (in0 m c t b h g hb hh i d).trans ?_
    by_cases e : d.val < 192
    · rw [dif_pos e, dif_pos e, ← hf.1]
    · rw [dif_neg e, dif_neg e]
  · have key : keyAt (iblk m c 1 t) (iblk m c 3 t) g p d = if e : d.val < 192 then keyOf m c b h p ⟨d.val, e⟩ else 0 := by
      unfold keyAt
      rw [show (fun p => iblk m c 3 t (ix4 0 g p d)) = _ from funext fun p => in3 m c t h g hh p d,
        show (fun p => iblk m c 1 t (ix4 0 g p d)) = _ from funext fun p => in1 m c t b h g hb hh p d]
      exact cat_dite p _ _ _
    refine key.trans ?_
    by_cases e : d.val < 192
    · rw [dif_pos e, dif_pos e]
      exact hf.2 p hp _
    · rw [dif_neg e, dif_neg e]
  · unfold valAt valOf
    rw [show (fun p => iblk m c 4 t (ix3 0 p (col g n))) = _ from funext fun p => in4 m c t h g hh p n,
      show (fun p => iblk m c 2 t (ix3 0 p (col g n))) = _ from funext fun p => in2 m c t b h g hb hh p n]

theorem out_at (t : Fin cfg0.N) (g : Fin 2) (i : Fin 2048) (n : Fin 128) :
    (outsAt0 m c t.val t.isLt).1 (ix3 0 i (col g n)) = outRow (iblk m c 0 t) (iblk m c 1 t) (iblk m c 2 t) (iblk m c 3 t) (iblk m c 4 t) g i n := by
  by_cases ht : t.val % 32 = 0
  · exact out_A m c t ht g i n
  · exact out_B m c t ht g i n

theorem emb (t : Fin cfg0.N) (b : Fin 16) (i : Fin 2048) (g : Fin 2) (n : Fin 128) (o : Fin 512) (hb : b.val = t.val / 2)
    (ho : o.val = 256 * (t.val % 2) + (128 * g.val + n.val)) : (win0_16.blk t).view.emb (ix3 0 i (col g n)) = ix3 b i o := by
  blk_ext [idx t, col]

theorem point (hf : ∀ b h, Finite m c b h) (t : Fin cfg0.N) (y : S1x2048x256.Idx) :
    (outsAt0 m c t.val t.isLt).1 y = result m c ((win0_16.blk t).view.emb y) := by
  have hN := lt_of_lt_of_eq t.isLt (show cfg0.N = 32 from N_0)
  obtain ⟨a, i, e, rfl⟩ : ∃ (a : Fin 1) (i : Fin 2048) (e : Fin 256), y = ix3 a i e := ⟨y 0, y 1, y 2, by blk_ext⟩
  obtain rfl : a = 0 := Subsingleton.elim _ _
  obtain ⟨g, n, rfl⟩ : ∃ (g : Fin 2) (n : Fin 128), e = col g n := ⟨⟨e.val / 128, by omega⟩, ⟨e.val % 128, by omega⟩, Fin.ext (by simp only [col]; omega)⟩
  have hg := g.isLt
  have hn := n.isLt
  rw [emb t ⟨t.val / 2, by omega⟩ i g n ⟨256 * (t.val % 2) + (128 * g.val + n.val), by omega⟩ rfl rfl, out_at m c t g i n,
    point_row m c ⟨t.val / 2, by omega⟩ ⟨2 * (t.val % 2) + g.val, by omega⟩ (hf _ _) t g rfl rfl i n]
  show _ = meanOf m c _ _ _ _
  congr 1
  · exact Fin.ext (by show 2 * (t.val % 2) + g.val = (256 * (t.val % 2) + (128 * g.val + n.val)) / 128; omega)
  · exact Fin.ext (by show n.val = (256 * (t.val % 2) + (128 * g.val + n.val)) % 128; omega)

theorem final (hf : ∀ b h, Finite m c b h) : (dats m 0 c).arrAt 16 (cfgs 0).N = result m c := by
  refine (dats m 0 c).arrAt_eq_of_covers 16 _ (by decide +kernel) fun t _ y => ?_
  blk_simp
  rw [after0_16]
  exact point m c hf t y

end Cert.KernelIdeal.Rows

end
-- ==== Proof.AttnClaim.lean ====
/- The attention call computes what its reference computes, of finite queries and keys. -/
module

public import proofs.«01_k».proof.Defs
public import proofs.«01_k».proof.Proof.AttnValue
public import proofs.«01_k».proof.Proof.Gen.Pre_finite_qk
public import proofs.«01_k».proof.Proof.Gen.ReferenceIdeal.Run
public import Idealize.ShloMosaic.Lib.ReduceAll

@[expose] public section

set_option maxRecDepth 16384

noncomputable section

namespace Cert.AttnClaim

open Idealize.ShloMosaic Idealize.ShloMosaic.TcCoe Idealize.SL.Sem Cert.KernelIdeal.Rows

theorem pinf : Ideal.ofBits .f32 0x7F800000#32 = ⊤ := by simp [Ideal.ofBits, Ideal.ieee]

/-- The scalars' shape. -/
abbrev P : Shape := Cert.Pre_finite_qk.S_

/-- An array of which every entry's absolute value is below `+∞` holds reals. -/
theorem real_of_all {s : Shape} {axes : List (Fin s.rank)} (x : FVec Ideal s .f32) (hb : P.BroadcastsInDim s (![] : Fin 0 → Fin s.rank)) (hr : s.ReducesTo axes P)
    (hu : 0 < P.numel) (e : Host.reduce IntOp.andi (cmpf .olt (Host.absf x) (broadcastInDim s ![] hb (constant P .f32 0x7F800000#32))) (constantI P 1 1#1) hr hu = fun _ => 1#1)
    (i : s.Idx) : x i = (((x i).toReal : ℝ) : EReal) := by
  have hs : Subsingleton P.Idx := ⟨fun x y => funext fun k => k.elim0⟩
  have f : BitVec.ofBool (decide (max (x i) (-(x i)) < Ideal.ofBits .f32 0x7F800000#32)) = 1#1 :=
    Host.reduce_andi_all _ _ _ _ (Shape.Idx.first hu) (congrFun e _) i
  rw [pinf] at f
  have h : max (x i) (-(x i)) < ⊤ := by
    by_contra hn
    rw [decide_eq_false hn] at f
    exact absurd f (by decide)
  have h1 := (max_lt_iff.mp h).1.ne
  have h2 : x i ≠ ⊥ := fun hx => by
    have := (max_lt_iff.mp h).2.ne
    rw [hx] at this
    exact this EReal.neg_bot
  exact (EReal.coe_toReal h1 h2).symm

/-- Every query and every key is finite. -/
theorem finite (m : (ℓ : Loc Cert.KernelIdeal.nD Cert.KernelIdeal.τ Cert.KernelIdeal.sig) → Buf (Elt Ideal) ℓ) (hm : Cert.Pre_KernelIdeal_finite_qk m)
    (c : Dev Cert.KernelIdeal.nD) (b : Fin 16) (h : Fin 4) : Finite m c b h := by
  obtain ⟨h0, h1, h3⟩ := hm c
  dsimp only [Cert.Pre_finite_qk.fn] at h0 h1 h3
  have f0 := real_of_all (m ((c : Thread Cert.KernelIdeal.nD Cert.KernelIdeal.τ).loc Cert.KernelIdeal.main_arg0)) Cert.Pre_finite_qk.Facts.bcast_S_S16x2048x4x192 Cert.Pre_finite_qk.Facts.reducesTo_S16x2048x4x192_S_d0_1_2_3 Cert.Pre_finite_qk.Facts.h_S_ h0
  have f1 := real_of_all (m ((c : Thread Cert.KernelIdeal.nD Cert.KernelIdeal.τ).loc Cert.KernelIdeal.main_arg1)) Cert.Pre_finite_qk.Facts.bcast_S_S16x2048x4x192 Cert.Pre_finite_qk.Facts.reducesTo_S16x2048x4x192_S_d0_1_2_3 Cert.Pre_finite_qk.Facts.h_S_ h1
  have f3 := real_of_all (m ((c : Thread Cert.KernelIdeal.nD Cert.KernelIdeal.τ).loc Cert.KernelIdeal.main_arg3)) Cert.Pre_finite_qk.Facts.bcast_S_S16x4x192 Cert.Pre_finite_qk.Facts.reducesTo_S16x4x192_S_d0_1_2 Cert.Pre_finite_qk.Facts.h_S_ h3
  constructor
  · intro i d
    exact f0 (ix4 b i h d)
  · intro p hp d
    unfold keyOf
    by_cases e : p < 16
    · rw [cat_meta _ _ p ⟨p, e⟩ rfl]
      exact f3 (ix3 ⟨p, e⟩ h d)
    · rw [cat_frame _ _ p ⟨p - 16, by omega⟩ (by simp only; omega)]
      exact f1 (ix4 b ⟨p - 16, by omega⟩ h d)

/-- The reference's result is the weighted mean. -/
theorem value (m : (ℓ : Loc Cert.KernelIdeal.nD Cert.KernelIdeal.τ Cert.KernelIdeal.sig) → Buf (Elt Ideal) ℓ) (c : Dev Cert.KernelIdeal.nD)
    (hf : ∀ b h, Finite m c b h) (b : Fin 16) (i : Fin 2048) (o : Fin 512) :
    Cert.ReferenceIdeal.Read.val_main_v36 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) (m ((c : Thread Cert.KernelIdeal.nD Cert.KernelIdeal.τ).loc Cert.KernelIdeal.main_arg4))
      (ix3 b i o) = result m c (ix3 b i o) := by
  obtain ⟨hq, hk⟩ := hf b ⟨o.val / 128, by omega⟩
  refine Cert.ReferenceIdeal.Rows.row_mean _ _ _ _ _ b ⟨o.val / 128, by omega⟩ i ⟨o.val % 128, by omega⟩ o (by simp only; omega) _ _ _ (hq i) (fun p d => ?_) fun p => ?_
  · refine Eq.trans ?_ (hk p.val p.isLt d)
    unfold Cert.ReferenceIdeal.Rows.key keyOf cat
    by_cases e : p.val < 16
    · rw [dif_pos e, dif_pos e]
    · rw [dif_neg e, dif_neg e, dif_pos p.isLt]
  · unfold Cert.ReferenceIdeal.Rows.val valOf cat
    by_cases e : p.val < 16
    · rw [dif_pos e, dif_pos e]
      rfl
    · rw [dif_neg e, dif_neg e, dif_pos p.isLt]
      rfl

theorem algebraic : Cert.algebraic_KernelIdeal_ReferenceIdeal_pre_finite_qk := by
  pair_intro
  · run_from Cert.KernelIdeal.Value.run_blocks m g
  · run_from Cert.ReferenceIdeal.Value.run m' g'
    refine Eq.trans ?_ (Cert.KernelIdeal.Rows.final m c (finite m hpre c)).symm
    refine (Cert.ReferenceIdeal.Read.val_main_v36_eq m' c).trans ?_
    obtain ⟨e0, e1, e2, e3, e4, -⟩ := hagree c
    rw [e0, e1, e2, e3, e4]
    funext o
    obtain ⟨b, i, o, rfl⟩ : ∃ (b : Fin 16) (i : Fin 2048) (n : Fin 512), o = ix3 b i n := ⟨o 0, o 1, o 2, by blk_ext⟩
    exact value m c (finite m hpre c) b i o

end Cert.AttnClaim

end
-- ==== Proof.BackSpec.lean ====
/- What the mixers' output projection, the second feed-forward network and the last norm make of one token: formulas over rows of extended reals,
   to which both programs of the call `back` are brought. -/
module

public import proofs.«01_k».proof.Proof.Gen.BackIdeal.Skeleton
public import Idealize.ShloMosaic.Lib.Pointwise

@[expose] public section

noncomputable section

namespace Cert.BackSpec

open Idealize.ShloMosaic

/-- A row divided by its root mean square and multiplied by a gain; `w` holds the bits of the row's length. -/
def rms {n : ℕ} (w : BitVec 32) (x g : Fin n → EReal) (j : Fin n) : EReal :=
  x j * Ideal.rsqrt (Ideal.div (∑ k, x k * x k) (Ideal.ofBits .f32 w) + Ideal.ofBits .f32 0x358637BD#32) * g j

/-- The residual stream after the output projection: the attention's normed output through the upper half of the
    matrix, the gated recurrence's through the lower. -/
def mix (h : Fin 1024 → EReal) (ym hl gg ga gl : Fin 512 → EReal) (wt wb : Fin 512 → Fin 1024 → EReal) (n : Fin 1024) : EReal :=
  h n + (∑ k, rms 0x44000000#32 ym ga k * wt k n) + ∑ k, rms 0x44000000#32 (fun i => hl i * gg i) gl k * wb k n

/-- The hidden layer of the gated network. -/
def act (u : Fin 1024 → EReal) (wg wu : Fin 1024 → Fin 2816 → EReal) (f : Fin 2816) : EReal :=
  (∑ k, u k * wg k f) * Ideal.logistic (∑ k, u k * wg k f) * ∑ k, u k * wu k f

/-- Half the network's output, added to the residual stream. -/
def ffn (h u : Fin 1024 → EReal) (wg wu : Fin 1024 → Fin 2816 → EReal) (wd : Fin 2816 → Fin 1024 → EReal) (n : Fin 1024) : EReal :=
  h n + Ideal.ofBits .f32 0x3F000000#32 * ∑ f, act u wg wu f * wd f n

/-- The whole of it for one token. -/
def token (h : Fin 1024 → EReal) (ym hl gg ga gl : Fin 512 → EReal) (wt wb : Fin 512 → Fin 1024 → EReal) (g2 : Fin 1024 → EReal)
    (wg wu : Fin 1024 → Fin 2816 → EReal) (wd : Fin 2816 → Fin 1024 → EReal) (gf : Fin 1024 → EReal) (n : Fin 1024) : EReal :=
  rms 0x44800000#32 (ffn (mix h ym hl gg ga gl wt wb) (rms 0x44800000#32 (mix h ym hl gg ga gl wt wb) g2) wg wu wd) gf n

end Cert.BackSpec

end
-- ==== Proof.BackPay.lean ====
/- The call `back`, one grid point: what its stored vectors are, read at an index. -/
module

public import proofs.«01_k».proof.Proof.BackSpec

@[expose] public section

set_option maxRecDepth 16384

noncomputable section

namespace Cert.BackIdeal.Pay

open Idealize.ShloMosaic Cert.BackIdeal Cert.BackIdeal.Gen Cert.BackSpec

/-! ## The stream after the output projection, and its norm -/

section Mix

variable (x0 : Vec Ideal S1x512x1024 .bf16) (x1 x2 x3 : Vec Ideal S1x512x512 .bf16) (x4 x5 : Vec Ideal S1x512 .f32)
  (wt wb : Vec Ideal S512x1024 .bf16) (x7 : Vec Ideal S1x1024 .f32) (r : Fin 512) (n : Fin 1024)

/-- Row `r` of a block's stream after the output projection. -/
def mixRow : Fin 1024 → EReal :=
  mix (fun j => x0 (ix3 0 r j)) (fun j => x1 (ix3 0 r j)) (fun j => x2 (ix3 0 r j)) (fun j => x3 (ix3 0 r j))
    (fun j => x4 (ix2 0 j)) (fun j => x5 (ix2 0 j)) (fun k j => wt (ix2 k j)) (fun k j => wb (ix2 k j))

/-- The first point's stream. -/
theorem h2_first : k0_pay3 (F := Ideal) (k0_pay7 x1 x4) (k0_pay8 x2 x3 x5) x0 wt wb (ix2 r n) = mixRow x0 x1 x2 x3 x4 x5 wt wb r n := by
  pointwise [k0_pay3, k0_pay1, k0_pay7, k0_pay8, mixRow, mix, rms]

/-- The first point's normed stream. -/
theorem u2_first : k0_pay2 (F := Ideal) (k0_pay7 x1 x4) (k0_pay8 x2 x3 x5) x0 wt wb x7 (ix2 r n)
    = rms 0x44800000#32 (mixRow x0 x1 x2 x3 x4 x5 wt wb r) (fun j => x7 (ix2 0 j)) n := by
  pointwise [k0_pay2, k0_pay1, k0_pay7, k0_pay8, mixRow, mix, rms]

/-- A later point's stream. -/
theorem h2_later : k0_pay6 (F := Ideal) (k0_pay21 (k0_pay18 (k0_pay17 x1) x4) (k0_pay19 x2 x3 x5) (k0_pay20 x0) wt wb) (ix2 r n)
    = mixRow x0 x1 x2 x3 x4 x5 wt wb r n := by
  pointwise [k0_pay6, k0_pay21, k0_pay18, k0_pay17, k0_pay19, k0_pay20, mixRow, mix, rms]

/-- A later point's normed stream. -/
theorem u2_later : k0_pay5 (F := Ideal) (k0_pay22 (k0_pay18 (k0_pay17 x1) x4) (k0_pay19 x2 x3 x5) (k0_pay20 x0) wt wb x7) (ix2 r n)
    = rms 0x44800000#32 (mixRow x0 x1 x2 x3 x4 x5 wt wb r) (fun j => x7 (ix2 0 j)) n := by
  pointwise [k0_pay5, k0_pay22, k0_pay21, k0_pay18, k0_pay17, k0_pay19, k0_pay20, mixRow, mix, rms]

end Mix

/-! ## The hidden layer, 256 columns at a time -/

section Act

variable (u : Vec Ideal S512x1024 .bf16) (g p : Vec Ideal S1024x256 .bf16) (r : Fin 512) (f : Fin 256)

/-- One entry of a tile of the hidden layer. -/
def hidden : EReal :=
  (∑ k : Fin 1024, u (ix2 r k) * g (ix2 k f)) * Ideal.logistic (∑ k : Fin 1024, u (ix2 r k) * g (ix2 k f)) * ∑ k : Fin 1024, u (ix2 r k) * p (ix2 k f)

theorem act0 : k0_pay9 (F := Ideal) u g p (ix2 r f) = hidden u g p r f := by
  pointwise [k0_pay9, hidden]

theorem act1 : k0_pay10 (F := Ideal) u g p (ix2 r f) = hidden u g p r f := by
  pointwise [k0_pay10, hidden]

theorem act3 : k0_pay15 (F := Ideal) u g p (ix2 r f) = hidden u g p r f := by
  pointwise [k0_pay15, hidden]

theorem act4 : k0_pay16 (F := Ideal) u g p (ix2 r f) = hidden u g p r f := by
  pointwise [k0_pay16, hidden]

theorem act5 : k0_pay23 (F := Ideal) u g p (ix2 r f) = hidden u g p r f := by
  pointwise [k0_pay23, hidden]

theorem act7 : k0_pay26 (F := Ideal) u g p (ix2 r f) = hidden u g p r f := by
  pointwise [k0_pay26, hidden]

theorem act8 : k0_pay27 (F := Ideal) u g p (ix2 r f) = hidden u g p r f := by
  pointwise [k0_pay27, hidden]

theorem act9 : k0_pay28 (F := Ideal) u g p (ix2 r f) = hidden u g p r f := by
  pointwise [k0_pay28, hidden]

theorem act10 : k0_pay29 (F := Ideal) u g p (ix2 r f) = hidden u g p r f := by
  pointwise [k0_pay29, hidden]

theorem act2 : k0_pay14 (F := Ideal) (k0_pay11 u g) (k0_pay12 u p) (k0_pay13 u g) (ix2 r f) = hidden u g p r f := by
  pointwise [k0_pay14, k0_pay11, k0_pay12, k0_pay13, hidden]

theorem act6 : k0_pay25 (F := Ideal) u (k0_pay24 u g) p (ix2 r f) = hidden u g p r f := by
  pointwise [k0_pay25, k0_pay24, hidden]

end Act

/-! ## The network's output and the last norm, 256 rows at a time -/

section Out

variable (a : Vec Ideal S256x2816 .bf16) (wd : Vec Ideal S2816x1024 .bf16) (h : Vec Ideal S256x1024 .f32) (x11 : Vec Ideal S1x1024 .f32)
  (r : Fin 256) (n : Fin 1024)

/-- One row of the final stream, before its norm. -/
def outRow (j : Fin 1024) : EReal := h (ix2 r j) + Ideal.ofBits .f32 0x3F000000#32 * ∑ f : Fin 2816, a (ix2 r f) * wd (ix2 f j)

theorem out_top : k0_pay31 (F := Ideal) (k0_pay30 a wd h) x11 (ix3 0 r n) = rms 0x44800000#32 (outRow a wd h r) (fun j => x11 (ix2 0 j)) n := by
  pointwise [k0_pay31, k0_pay30, outRow, rms]

theorem out_bottom : k0_pay4 (F := Ideal) (k0_pay32 a wd h) (k0_pay33 x11) (ix3 0 r n) = rms 0x44800000#32 (outRow a wd h r) (fun j => x11 (ix2 0 j)) n := by
  pointwise [k0_pay4, k0_pay32, k0_pay33, outRow, rms]

end Out

end Cert.BackIdeal.Pay

end
-- ==== Proof.BackIn.lean ====
/- The call `back`: its input blocks, over the argument arrays. -/
module

public import proofs.«01_k».proof.Proof.BackPay
public import proofs.«01_k».proof.Proof.Gen.BackIdeal.Value
public import Idealize.ShloMosaic.Lib.Pipeline.ValueKit

@[expose] public section

set_option maxRecDepth 16384

noncomputable section

namespace Cert.BackIdeal.Rows

open Idealize.ShloMosaic Idealize.ShloMosaic.TcCoe Idealize.ShloMosaic.Pipeline Cert.BackIdeal Cert.BackIdeal.Gen Cert.BackSpec

variable (m : (ℓ : Loc nD τ sig) → Buf (Elt Ideal) ℓ) (c : Dev nD)

/-- Where each window's block lies at each point: the activations' at the point's 512 tokens (the last point has none of its own and repeats the
    one before), the weights' whole, the result's at the 512 tokens of the point before. -/
theorem idx : ∀ t : Fin cfg0.N,
    win0_0.index t = ![min t.val 63 / 4, min t.val 63 % 4, 0] ∧ win0_1.index t = ![min t.val 63 / 4, min t.val 63 % 4, 0]
    ∧ win0_2.index t = ![min t.val 63 / 4, min t.val 63 % 4, 0] ∧ win0_3.index t = ![min t.val 63 / 4, min t.val 63 % 4, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![(t.val - 1) / 4, (t.val - 1) % 4, 0] :=
  (by decide +kernel : ∀ t : Fin grid0.N, _)

variable (t : Fin cfg0.N) (b : Fin 16) (s : Fin 2048) (r : Fin 512)

theorem in0 (hb : b.val = min t.val 63 / 4) (hs : s.val = min t.val 63 % 4 * 512 + r.val) (n : Fin 1024) :
    iblk m c 0 t (ix3 0 r n) = m ((c : Thread nD τ).loc main_arg0) (ix3 b s n) := by
  blk_ext [iblk, V, idx t]

theorem in1 (hb : b.val = min t.val 63 / 4) (hs : s.val = min t.val 63 % 4 * 512 + r.val) (n : Fin 512) :
    iblk m c 1 t (ix3 0 r n) = m ((c : Thread nD τ).loc main_arg1) (ix3 b s n) := by
  blk_ext [iblk, V, idx t]

theorem in2 (hb : b.val = min t.val 63 / 4) (hs : s.val = min t.val 63 % 4 * 512 + r.val) (n : Fin 512) :
    iblk m c 2 t (ix3 0 r n) = m ((c : Thread nD τ).loc main_arg2) (ix3 b s n) := by
  blk_ext [iblk, V, idx t]

theorem in3 (hb : b.val = min t.val 63 / 4) (hs : s.val = min t.val 63 % 4 * 512 + r.val) (n : Fin 512) :
    iblk m c 3 t (ix3 0 r n) = m ((c : Thread nD τ).loc main_arg3) (ix3 b s n) := by
  blk_ext [iblk, V, idx t]

theorem in4 (n : Fin 512) : iblk m c 4 t (ix2 0 n) = m ((c : Thread nD τ).loc main_arg4) (ix2 0 n) := by
  have e : iblk m c 4 t (ix2 0 n) = V m c main_v1 (ix2 0 n) := by
    blk_ext [iblk, idx t]
  rw [e]
  entry_read
  pointwise

theorem in5 (n : Fin 512) : iblk m c 5 t (ix2 0 n) = m ((c : Thread nD τ).loc main_arg5) (ix2 0 n) := by
  have e : iblk m c 5 t (ix2 0 n) = V m c main_v3 (ix2 0 n) := by
    blk_ext [iblk, idx t]
  rw [e]
  entry_read
  pointwise

theorem in6 (k n : Fin 1024) : iblk m c 6 t (ix2 k n) = m ((c : Thread nD τ).loc main_arg6) (ix3 0 k n) := by
  have e : iblk m c 6 t (ix2 k n) = V m c main_v5 (ix2 k n) := by
    blk_ext [iblk, idx t]
  rw [e]
  entry_read
  pointwise

theorem in7 (n : Fin 1024) : iblk m c 7 t (ix2 0 n) = m ((c : Thread nD τ).loc main_arg7) (ix2 0 n) := by
  have e : iblk m c 7 t (ix2 0 n) = V m c main_v7 (ix2 0 n) := by
    blk_ext [iblk, idx t]
  rw [e]
  entry_read
  pointwise

theorem in8 (k : Fin 1024) (n : Fin 2816) : iblk m c 8 t (ix2 k n) = m ((c : Thread nD τ).loc main_arg8) (ix3 0 k n) := by
  have e : iblk m c 8 t (ix2 k n) = V m c main_v9 (ix2 k n) := by
    blk_ext [iblk, idx t]
  rw [e]
  entry_read
  pointwise

theorem in9 (k : Fin 1024) (n : Fin 2816) : iblk m c 9 t (ix2 k n) = m ((c : Thread nD τ).loc main_arg9) (ix3 0 k n) := by
  have e : iblk m c 9 t (ix2 k n) = V m c main_v11 (ix2 k n) := by
    blk_ext [iblk, idx t]
  rw [e]
  entry_read
  pointwise

theorem in10 (k : Fin 2816) (n : Fin 1024) : iblk m c 10 t (ix2 k n) = m ((c : Thread nD τ).loc main_arg10) (ix3 0 k n) := by
  have e : iblk m c 10 t (ix2 k n) = V m c main_v13 (ix2 k n) := by
    blk_ext [iblk, idx t]
  rw [e]
  entry_read
  pointwise

theorem in11 (n : Fin 1024) : iblk m c 11 t (ix2 0 n) = m ((c : Thread nD τ).loc main_arg11) (ix2 0 n) := by
  have e : iblk m c 11 t (ix2 0 n) = V m c main_v15 (ix2 0 n) := by
    blk_ext [iblk, idx t]
  rw [e]
  entry_read
  pointwise

end Cert.BackIdeal.Rows

end
-- ==== Proof.BackMix.lean ====
/- The call `back`: what each point leaves in its scratch, over the argument arrays. -/
module

public import proofs.«01_k».proof.Proof.BackIn

@[expose] public section

set_option maxRecDepth 16384

noncomputable section

namespace Cert.BackIdeal.Rows

open Idealize.ShloMosaic Idealize.ShloMosaic.TcCoe Idealize.ShloMosaic.Pipeline Cert.BackIdeal Cert.BackIdeal.Gen Cert.BackSpec

variable (m : (ℓ : Loc nD τ sig) → Buf (Elt Ideal) ℓ) (c : Dev nD)

/-- The arguments, as rows. -/
def mixRow (b : Fin 16) (s : Fin 2048) : Fin 1024 → EReal :=
  mix (fun j => m ((c : Thread nD τ).loc main_arg0) (ix3 b s j)) (fun j => m ((c : Thread nD τ).loc main_arg1) (ix3 b s j))
    (fun j => m ((c : Thread nD τ).loc main_arg2) (ix3 b s j)) (fun j => m ((c : Thread nD τ).loc main_arg3) (ix3 b s j))
    (fun j => m ((c : Thread nD τ).loc main_arg4) (ix2 0 j)) (fun j => m ((c : Thread nD τ).loc main_arg5) (ix2 0 j))
    (fun k j => m ((c : Thread nD τ).loc main_arg6) (ix3 0 (Fin.castLE (by decide : 512 ≤ 1024) k) j))
    (fun k j => m ((c : Thread nD τ).loc main_arg6) (ix3 0 (Fin.natAdd 512 k) j))

def normRow (b : Fin 16) (s : Fin 2048) : Fin 1024 → EReal :=
  rms 0x44800000#32 (mixRow m c b s) (fun j => m ((c : Thread nD τ).loc main_arg7) (ix2 0 j))

theorem ld_top (X : Vec Ideal S1024x1024 .bf16) (k : Fin 512) (j : Fin 1024) :
    View.ld X (Rect.unit (s := S1024x1024) ![0, 0] S512x1024.size inb_S1024x1024_S512x1024_0_0) (ix2 k j) = X (ix2 (Fin.castLE (by decide : 512 ≤ 1024) k) j) := by
  pointwise
  rfl

theorem ld_bottom (X : Vec Ideal S1024x1024 .bf16) (k : Fin 512) (j : Fin 1024) :
    View.ld X (Rect.unit (s := S1024x1024) ![512, 0] S512x1024.size inb_S1024x1024_S512x1024_512_0) (ix2 k j) = X (ix2 (Fin.natAdd 512 k) j) := by
  pointwise
  rfl

/-- Row `r` of the mixed stream of point `t`'s own 512 tokens. -/
theorem mixRow_eq (t : Fin cfg0.N) (b : Fin 16) (s : Fin 2048) (r : Fin 512) (hb : b.val = min t.val 63 / 4) (hs : s.val = min t.val 63 % 4 * 512 + r.val) :
    Pay.mixRow (iblk m c 0 t) (iblk m c 1 t) (iblk m c 2 t) (iblk m c 3 t) (iblk m c 4 t) (iblk m c 5 t)
      (View.ld (iblk m c 6 t) (Rect.unit (s := S1024x1024) ![0, 0] S512x1024.size inb_S1024x1024_S512x1024_0_0))
      (View.ld (iblk m c 6 t) (Rect.unit (s := S1024x1024) ![512, 0] S512x1024.size inb_S1024x1024_S512x1024_512_0)) r = mixRow m c b s := by
  unfold Pay.mixRow mixRow
  simp only [in0 m c t b s r hb hs, in1 m c t b s r hb hs, in2 m c t b s r hb hs, in3 m c t b s r hb hs, in4, in5]
  congr 1
  · funext k j
    exact (ld_top _ k j).trans (in6 m c t _ j)
  · funext k j
    exact (ld_bottom _ k j).trans (in6 m c t _ j)

/-- What a point leaves in the stream scratch. -/
theorem h2_after (t : Fin cfg0.N) (b : Fin 16) (s : Fin 2048) (r : Fin 512) (hb : b.val = min t.val 63 / 4) (hs : s.val = min t.val 63 % 4 * 512 + r.val)
    (n : Fin 1024) : (outsAt0 m c t.val t.isLt).2.2 (ix2 r n) = mixRow m c b s n := by
  rw [← mixRow_eq m c t b s r hb hs]
  by_cases h : 1 ≤ t.val
  · rw [outsAt0_B m c t (by have := lt_of_lt_of_eq t.isLt (show cfg0.N = 65 from N_0); omega) h]
    frame_out
    exact Pay.h2_later _ _ _ _ _ _ _ _ r n
  · rw [outsAt0_A m c t (by omega) h]
    frame_out
    exact Pay.h2_first _ _ _ _ _ _ _ _ r n

/-- What a point leaves in the normed-stream scratch. -/
theorem u2_after (t : Fin cfg0.N) (b : Fin 16) (s : Fin 2048) (r : Fin 512) (hb : b.val = min t.val 63 / 4) (hs : s.val = min t.val 63 % 4 * 512 + r.val)
    (n : Fin 1024) : (outsAt0 m c t.val t.isLt).2.1 (ix2 r n) = normRow m c b s n := by
  unfold normRow
  rw [← mixRow_eq m c t b s r hb hs]
  simp only [← in7 m c t]
  by_cases h : 1 ≤ t.val
  · rw [outsAt0_B m c t (by have := lt_of_lt_of_eq t.isLt (show cfg0.N = 65 from N_0); omega) h]
    frame_out
    exact Pay.u2_later _ _ _ _ _ _ _ _ _ r n
  · rw [outsAt0_A m c t (by omega) h]
    frame_out
    exact Pay.u2_first _ _ _ _ _ _ _ _ _ r n

end Cert.BackIdeal.Rows

end
-- ==== Proof.BackOut.lean ====
/- The call `back`: what a point writes to its result block, over the argument arrays. -/
module

public import proofs.«01_k».proof.Proof.BackMix
public import Idealize.ShloMosaic.Lib.Pipeline.ReadBack

@[expose] public section

set_option maxRecDepth 16384

noncomputable section

namespace Cert.BackIdeal.Rows

open Idealize.ShloMosaic Idealize.ShloMosaic.TcCoe Idealize.ShloMosaic.Pipeline Cert.BackIdeal Cert.BackIdeal.Gen Cert.BackSpec

variable (m : (ℓ : Loc nD τ sig) → Buf (Elt Ideal) ℓ) (c : Dev nD)

/-- One token's result. -/
def resultRow (b : Fin 16) (s : Fin 2048) : Fin 1024 → EReal :=
  rms 0x44800000#32 (ffn (mixRow m c b s) (normRow m c b s) (fun k f => m ((c : Thread nD τ).loc main_arg8) (ix3 0 k f))
    (fun k f => m ((c : Thread nD τ).loc main_arg9) (ix3 0 k f)) (fun k f => m ((c : Thread nD τ).loc main_arg10) (ix3 0 k f)))
    (fun j => m ((c : Thread nD τ).loc main_arg11) (ix2 0 j))

theorem rms_congr {n : ℕ} (w : BitVec 32) {x x' g g' : Fin n → EReal} (hx : ∀ j, x j = x' j) (hg : ∀ j, g j = g' j) (j : Fin n) :
    rms w x g j = rms w x' g' j := by
  rw [funext hx, funext hg]

theorem outRow_eq (a : Vec Ideal S256x2816 .bf16) (wd : Vec Ideal S2816x1024 .bf16) (h : Vec Ideal S256x1024 .f32) (r : Fin 256)
    (H U : Fin 1024 → EReal) (wg wu : Fin 1024 → Fin 2816 → EReal) (w : Fin 2816 → Fin 1024 → EReal) (hH : ∀ j, h (ix2 r j) = H j)
    (ha : ∀ f, a (ix2 r f) = act U wg wu f) (hw : ∀ f j, wd (ix2 f j) = w f j) (j : Fin 1024) : Pay.outRow a wd h r j = ffn H U wg wu w j := by
  unfold Pay.outRow ffn
  simp only [hH, ha, hw]

theorem hidden_eq (u : Vec Ideal S512x1024 .bf16) (g p : Vec Ideal S1024x256 .bf16) (r : Fin 512) (f : Fin 256) (U : Fin 1024 → EReal)
    (wg wu : Fin 1024 → Fin 2816 → EReal) (o : Fin 2816) (hu : ∀ k, u (ix2 r k) = U k) (hg : ∀ k, g (ix2 k f) = wg k o) (hp : ∀ k, p (ix2 k f) = wu k o) :
    Pay.hidden u g p r f = act U wg wu o := by
  unfold Pay.hidden act
  simp only [hu, hg, hp]

/-- 256 columns of a matrix, read from column `o` on. -/
theorem cols (X : Vec Ideal S1024x2816 .bf16) (o : ℕ) (inb) (k : Fin 1024) (q : Fin 256) (f : Fin 2816) (hf : f.val = o + q.val) :
    View.ld X (Rect.unit (s := S1024x2816) ![0, o] ![1024, 256] inb) (ix2 k q) = X (ix2 k f) := by
  refine congrArg X (funext fun a => Fin.ext ((Rect.idx_unit_val _ _ _ _ _).trans ?_))
  fin_cases a
  · exact Nat.zero_add _
  · exact hf.symm

set_option maxHeartbeats 1600000 in
theorem out_at (t : Fin cfg0.N) (b : Fin 16) (s : Fin 2048) (r : Fin 512) (ht : 1 ≤ t.val) (hb : b.val = (t.val - 1) / 4)
    (hs : s.val = (t.val - 1) % 4 * 512 + r.val) (n : Fin 1024) : (outsAt0 m c t.val t.isLt).1 (ix3 0 r n) = resultRow m c b s n := by
  rw [outsAt0_B m c t (by have := lt_of_lt_of_eq t.isLt (show cfg0.N = 65 from N_0); omega) ht]
  have hN := lt_of_lt_of_eq t.isLt (show cfg0.N = 65 from N_0)
  have hu := u2_after m c ⟨t.val - 1, by omega⟩ b s r (by simp; omega) (by simp; omega)
  have hh := h2_after m c ⟨t.val - 1, by omega⟩ b s r (by simp; omega) (by simp; omega)
  frame_out
  simp only [read_unread_whole]
  generalize (outsAt0 m c (t.val - 1) _).2.1 = u at *
  generalize (outsAt0 m c (t.val - 1) _).2.2 = hp at *
  unfold resultRow
  canon_tiles x h
  all_goals
    obtain ⟨a, r', n', rfl⟩ : ∃ (a : Fin 1) (r' : Fin 256) (n' : Fin 1024), x = ix3 a r' n' := ⟨x 0, x 1, x 2, by blk_ext⟩
    obtain rfl : a = 0 := Subsingleton.elim _ _
    obtain rfl : n = n' := Fin.ext h2
  · have hr : r.val = 256 + r'.val := h1
    rw [Pay.out_bottom]
    refine rms_congr _ (outRow_eq _ _ _ _ _ _ _ _ _ (fun j => ?_) (fun f => ?_) (fun f j => in10 m c t f j)) (fun j => in11 m c t j) n
    · rw [← hh]
      pointwise
      blk_ext
    · have e : (Rect.unit (s := S512x2816) ![256, 0] ![256, 2816] inb_S512x2816_S256x2816_256_0).idx (ix2 r' f) = ix2 r f := by
        refine funext fun a => Fin.ext ((Rect.idx_unit_val _ _ _ _ _).trans ?_)
        fin_cases a
        · exact hr.symm
        · exact Nat.zero_add _
      rw [View.readCov_eq_canon']
      refine (congrArg _ e).trans ?_
      canon_tiles y k
      all_goals
        obtain ⟨r₁, q, rfl⟩ : ∃ (r₁ : Fin 512) (q : Fin 256), y = ix2 r₁ q := ⟨y 0, y 1, by blk_ext⟩
        obtain rfl : r = r₁ := Fin.ext k0
        refine Eq.trans (by first | exact Pay.act0 _ _ _ _ _ | exact Pay.act1 _ _ _ _ _ | exact Pay.act2 _ _ _ _ _ | exact Pay.act3 _ _ _ _ _ | exact Pay.act4 _ _ _ _ _ | exact Pay.act5 _ _ _ _ _ | exact Pay.act6 _ _ _ _ _ | exact Pay.act7 _ _ _ _ _ | exact Pay.act8 _ _ _ _ _ | exact Pay.act9 _ _ _ _ _ | exact Pay.act10 _ _ _ _ _) (hidden_eq _ _ _ r q _ _ _ f hu (fun k => Eq.trans (cols _ _ _ k q f (by first | exact k1 | exact k1.trans (Nat.zero_add _).symm)) (in8 m c t k f))
          (fun k => Eq.trans (cols _ _ _ k q f (by first | exact k1 | exact k1.trans (Nat.zero_add _).symm)) (in9 m c t k f)))
  · have hr : r.val = r'.val := h1
    rw [Pay.out_top]
    refine rms_congr _ (outRow_eq _ _ _ _ _ _ _ _ _ (fun j => ?_) (fun f => ?_) (fun f j => in10 m c t f j)) (fun j => in11 m c t j) n
    · rw [← hh]
      pointwise
      blk_ext
    · have e : (Rect.unit (s := S512x2816) ![0, 0] ![256, 2816] inb_S512x2816_S256x2816_0_0).idx (ix2 r' f) = ix2 r f := by
        refine funext fun a => Fin.ext ((Rect.idx_unit_val _ _ _ _ _).trans ?_)
        fin_cases a
        · exact (Nat.zero_add _).trans hr.symm
        · exact Nat.zero_add _
      rw [View.readCov_eq_canon']
      refine (congrArg _ e).trans ?_
      canon_tiles y k
      all_goals
        obtain ⟨r₁, q, rfl⟩ : ∃ (r₁ : Fin 512) (q : Fin 256), y = ix2 r₁ q := ⟨y 0, y 1, by blk_ext⟩
        obtain rfl : r = r₁ := Fin.ext k0
        refine Eq.trans (by first | exact Pay.act0 _ _ _ _ _ | exact Pay.act1 _ _ _ _ _ | exact Pay.act2 _ _ _ _ _ | exact Pay.act3 _ _ _ _ _ | exact Pay.act4 _ _ _ _ _ | exact Pay.act5 _ _ _ _ _ | exact Pay.act6 _ _ _ _ _ | exact Pay.act7 _ _ _ _ _ | exact Pay.act8 _ _ _ _ _ | exact Pay.act9 _ _ _ _ _ | exact Pay.act10 _ _ _ _ _) (hidden_eq _ _ _ r q _ _ _ f hu (fun k => Eq.trans (cols _ _ _ k q f (by first | exact k1 | exact k1.trans (Nat.zero_add _).symm)) (in8 m c t k f))
          (fun k => Eq.trans (cols _ _ _ k q f (by first | exact k1 | exact k1.trans (Nat.zero_add _).symm)) (in9 m c t k f)))

end Cert.BackIdeal.Rows

end
-- ==== Proof.BackValue.lean ====
/- The call `back`: what its result array holds after the run, over the argument arrays. -/
module

public import proofs.«01_k».proof.Proof.BackOut

@[expose] public section

set_option maxRecDepth 16384

noncomputable section

namespace Cert.BackIdeal.Rows

open Idealize.ShloMosaic Idealize.ShloMosaic.TcCoe Idealize.ShloMosaic.Pipeline Cert.BackIdeal Cert.BackIdeal.Gen Cert.BackSpec

variable (m : (ℓ : Loc nD τ sig) → Buf (Elt Ideal) ℓ) (c : Dev nD)

/-- What the result array ends with. -/
def result : S16x2048x1024.Idx → EReal := fun i => resultRow m c (i 0) (i 1) (i 2)

theorem flush_pos : ∀ t : Fin grid0.N, win0_12.flush t = true → 1 ≤ t.val := by
  decide +kernel

theorem emb (t : Fin cfg0.N) (b : Fin 16) (s : Fin 2048) (r : Fin 512) (n : Fin 1024) (hb : b.val = (t.val - 1) / 4)
    (hs : s.val = (t.val - 1) % 4 * 512 + r.val) : (win0_12.blk t).view.emb (ix3 0 r n) = ix3 b s n := by
  blk_ext [idx t]

theorem point (t : Fin cfg0.N) (hf : win0_12.flush t = true) (y : S1x512x1024.Idx) :
    (outsAt0 m c t.val t.isLt).1 y = result m c ((win0_12.blk t).view.emb y) := by
  have ht := flush_pos t hf
  have hN := lt_of_lt_of_eq t.isLt (show cfg0.N = 65 from N_0)
  obtain ⟨a, r, n, rfl⟩ : ∃ (a : Fin 1) (r : Fin 512) (n : Fin 1024), y = ix3 a r n := ⟨y 0, y 1, y 2, by blk_ext⟩
  obtain rfl : a = 0 := Subsingleton.elim _ _
  rw [emb t ⟨(t.val - 1) / 4, by omega⟩ ⟨(t.val - 1) % 4 * 512 + r.val, by omega⟩ r n rfl rfl]
  exact out_at m c t _ _ r ht rfl rfl n

theorem final : (dats m 0 c).arrAt 12 (cfgs 0).N = result m c := by
  refine (dats m 0 c).arrAt_eq_of_covers 12 _ (by decide +kernel) fun t hf y => ?_
  blk_simp
  rw [after0_12]
  exact point m c t hf y

end Cert.BackIdeal.Rows

end
-- ==== Proof.BackRef.lean ====
/- The reference of the call `back`: its result, read at an index. -/
module

public import proofs.«01_k».proof.Proof.BackSpec
public import proofs.«01_k».proof.Proof.Gen.BackReferenceIdeal.Read

@[expose] public section

set_option maxRecDepth 16384

noncomputable section

namespace Cert.BackReferenceIdeal.Rows

open Idealize.ShloMosaic Cert.BackReferenceIdeal Cert.BackReferenceIdeal.Read Cert.BackSpec

variable (x0 : (⟨S16x2048x1024, .f32⟩ : BufTy).Contents (Elt Ideal)) (x1 : (⟨S16x2048x512, .f32⟩ : BufTy).Contents (Elt Ideal)) (x2 : (⟨S16x2048x512, .f32⟩ : BufTy).Contents (Elt Ideal)) (x3 : (⟨S16x2048x512, .f32⟩ : BufTy).Contents (Elt Ideal)) (x4 : (⟨S1x512, .f32⟩ : BufTy).Contents (Elt Ideal)) (x5 : (⟨S1x512, .f32⟩ : BufTy).Contents (Elt Ideal)) (x6 : (⟨S1x1024x1024, .f32⟩ : BufTy).Contents (Elt Ideal)) (x7 : (⟨S1x1024, .f32⟩ : BufTy).Contents (Elt Ideal)) (x8 : (⟨S1x1024x2816, .f32⟩ : BufTy).Contents (Elt Ideal)) (x9 : (⟨S1x1024x2816, .f32⟩ : BufTy).Contents (Elt Ideal)) (x10 : (⟨S1x2816x1024, .f32⟩ : BufTy).Contents (Elt Ideal)) (x11 : (⟨S1x1024, .f32⟩ : BufTy).Contents (Elt Ideal))
variable (b : Fin 16) (s : Fin 2048)

/-- One token's stream after the output projection. -/
def mixRow : Fin 1024 → EReal :=
  mix (fun j => x0 (ix3 b s j)) (fun j => x1 (ix3 b s j)) (fun j => x2 (ix3 b s j)) (fun j => x3 (ix3 b s j))
    (fun j => x4 (ix2 0 j)) (fun j => x5 (ix2 0 j)) (fun k j => x6 (ix3 0 (Fin.castLE (by decide : 512 ≤ 1024) k) j))
    (fun k j => x6 (ix3 0 (Fin.natAdd 512 k) j))

theorem ym (j : Fin 512) : val_main_v14 (F := Ideal) x1 x4 (ix3 b s j)
    = rms 0x44000000#32 (fun j => x1 (ix3 b s j)) (fun j => x4 (ix2 0 j)) j := by
  pointwise [val_main_v1, val_main_v2, val_main_cst, val_main_v3, val_main_v4, val_main_cst_0, val_main_v5, val_main_v6, val_main_cst_1, val_main_v7, val_main_v8, val_main_v9, val_main_v10, val_main_v11, val_main_v12, val_main_v13, val_main_v14, rms]

theorem gated (j : Fin 512) : val_main_v28 (F := Ideal) x2 x3 x5 (ix3 b s j)
    = rms 0x44000000#32 (fun j => x2 (ix3 b s j) * x3 (ix3 b s j)) (fun j => x5 (ix2 0 j)) j := by
  pointwise [val_main_v0, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, rms]

theorem stream (n : Fin 1024) : val_main_v32 (F := Ideal) x0 x1 x2 x3 x4 x5 x6 (ix3 b s n) = mixRow x0 x1 x2 x3 x4 x5 x6 b s n := by
  pointwise [val_main_v32, val_main_v31, val_main_v30, val_main_v29]
  rw [← add_assoc]
  simp only [ym, gated]
  rfl

/-- One token's normed stream. -/
def normRow : Fin 1024 → EReal := rms 0x44800000#32 (mixRow x0 x1 x2 x3 x4 x5 x6 b s) (fun j => x7 (ix2 0 j))

theorem normed (n : Fin 1024) : val_main_v46 (F := Ideal) x0 x1 x2 x3 x4 x5 x6 x7 (ix3 b s n) = normRow x0 x1 x2 x3 x4 x5 x6 x7 b s n := by
  pointwise [val_main_v33, val_main_v34, val_main_cst_5, val_main_v35, val_main_v36, val_main_cst_6, val_main_v37, val_main_v38, val_main_cst_7, val_main_v39, val_main_v40, val_main_v41, val_main_v42, val_main_v43, val_main_v44, val_main_v45, val_main_v46, stream, normRow, rms]

theorem gate (f : Fin 2816) : val_main_v48 (F := Ideal) x0 x1 x2 x3 x4 x5 x6 x7 x8 (ix3 b s f)
    = ∑ k, normRow x0 x1 x2 x3 x4 x5 x6 x7 b s k * x8 (ix3 0 k f) := by
  pointwise [val_main_v47, val_main_v48, normed]

theorem hidden (f : Fin 2816) : val_main_v52 (F := Ideal) x0 x1 x2 x3 x4 x5 x6 x7 x8 x9 (ix3 b s f)
    = act (normRow x0 x1 x2 x3 x4 x5 x6 x7 b s) (fun k f => x8 (ix3 0 k f)) (fun k f => x9 (ix3 0 k f)) f := by
  pointwise [val_main_v49, val_main_v50, val_main_v51, val_main_v52, val_main_call0_v0, val_main_call0_v1, val_main_call0_cst, val_main_call0_v2, val_main_call0_v3, val_main_call0_cst_0, val_main_call0_v4, val_main_call0_v5, gate, normed, act, Ideal.logistic]

theorem final (n : Fin 1024) : val_main_v57 (F := Ideal) x0 x1 x2 x3 x4 x5 x6 x7 x8 x9 x10 (ix3 b s n)
    = ffn (mixRow x0 x1 x2 x3 x4 x5 x6 b s) (normRow x0 x1 x2 x3 x4 x5 x6 x7 b s) (fun k f => x8 (ix3 0 k f)) (fun k f => x9 (ix3 0 k f))
        (fun k f => x10 (ix3 0 k f)) n := by
  pointwise [val_main_v53, val_main_v54, val_main_cst_8, val_main_v55, val_main_v56, val_main_v57, stream, hidden, ffn]

/-- The reference's result for one token. -/
theorem result (n : Fin 1024) : val_main_v71 (F := Ideal) x0 x1 x2 x3 x4 x5 x6 x7 x8 x9 x10 x11 (ix3 b s n)
    = rms 0x44800000#32 (ffn (mixRow x0 x1 x2 x3 x4 x5 x6 b s) (normRow x0 x1 x2 x3 x4 x5 x6 x7 b s) (fun k f => x8 (ix3 0 k f))
        (fun k f => x9 (ix3 0 k f)) (fun k f => x10 (ix3 0 k f))) (fun j => x11 (ix2 0 j)) n := by
  pointwise [val_main_v58, val_main_v59, val_main_cst_9, val_main_v60, val_main_v61, val_main_cst_10, val_main_v62, val_main_v63, val_main_cst_11, val_main_v64, val_main_v65, val_main_v66, val_main_v67, val_main_v68, val_main_v69, val_main_v70, val_main_v71, final, rms]

end Cert.BackReferenceIdeal.Rows

end
-- ==== Proof.BackClaim.lean ====
/- The call `back` computes what its reference computes. -/
module

public import proofs.«01_k».proof.Defs
public import proofs.«01_k».proof.Proof.BackValue
public import proofs.«01_k».proof.Proof.BackRef
public import proofs.«01_k».proof.Proof.Gen.BackReferenceIdeal.Run

@[expose] public section

set_option maxRecDepth 16384

noncomputable section

namespace Cert.BackClaim

open Idealize.ShloMosaic Idealize.ShloMosaic.TcCoe Idealize.SL.Sem

theorem algebraic : Cert.algebraic_BackIdeal_BackReferenceIdeal := by
  pair_intro
  · run_from Cert.BackIdeal.Value.run_blocks m g
  · run_from Cert.BackReferenceIdeal.Value.run m' g'
    refine Eq.trans ?_ (Cert.BackIdeal.Rows.final m c).symm
    refine (Cert.BackReferenceIdeal.Read.val_main_v71_eq m' c).trans ?_
    obtain ⟨e0, e1, e2, e3, e4, e5, e6, e7, e8, e9, e10, e11⟩ := hagree c
    rw [e0, e1, e2, e3, e4, e5, e6, e7, e8, e9, e10, e11]
    funext i
    obtain ⟨b, s, n, rfl⟩ : ∃ (b : Fin 16) (s : Fin 2048) (n : Fin 1024), i = ix3 b s n := ⟨i 0, i 1, i 2, by blk_ext⟩
    exact Cert.BackReferenceIdeal.Rows.result _ _ _ _ _ _ _ _ _ _ _ _ b s n

end Cert.BackClaim

end
-- ==== Proof.FrontPay.lean ====
/- The call `front`, one grid point: what it stores of the first feed-forward half, read at an index. -/
module

public import proofs.«01_k».proof.Proof.BackSpec
public import proofs.«01_k».proof.Proof.Gen.FrontIdeal.Skeleton

@[expose] public section

set_option maxRecDepth 16384

noncomputable section

namespace Cert.FrontIdeal.Pay

open Idealize.ShloMosaic Cert.FrontIdeal Cert.FrontIdeal.Gen Cert.BackSpec

section Act

variable (x0 : Vec Ideal S1x512x1024 .f32) (x2 : Vec Ideal S1x1024 .f32) (u : Vec Ideal S512x1024 .bf16) (g p : Vec Ideal S1024x256 .bf16)
  (r : Fin 512) (n : Fin 1024) (f : Fin 256)

/-- A row of a block, normed. -/
theorem normed : k0_pay11 (F := Ideal) (k0_pay10 x0) x2 (ix2 r n) = rms 0x44800000#32 (fun j => x0 (ix3 0 r j)) (fun j => x2 (ix2 0 j)) n := by
  pointwise [k0_pay11, k0_pay10, rms]

/-- One entry of a tile of the hidden layer: 256 of its columns, from the normed rows. -/
def hidden (u : Vec Ideal S512x1024 .bf16) (g p : Vec Ideal S1024x256 .bf16) (r : Fin 512) (f : Fin 256) : EReal :=
  (∑ k : Fin 1024, u (ix2 r k) * g (ix2 k f)) * Ideal.logistic (∑ k : Fin 1024, u (ix2 r k) * g (ix2 k f)) * ∑ k : Fin 1024, u (ix2 r k) * p (ix2 k f)

theorem act0 : k0_pay12 (F := Ideal) (k0_pay10 x0) x2 g p (ix2 r f) = hidden (k0_pay11 (F := Ideal) (k0_pay10 x0) x2) g p r f := by
  pointwise [k0_pay12, k0_pay11, k0_pay10, hidden]

theorem act1 : k0_pay14 (F := Ideal) (k0_pay13 (k0_pay10 x0) x2 g p) (ix2 r f) = hidden (k0_pay11 (F := Ideal) (k0_pay10 x0) x2) g p r f := by
  pointwise [k0_pay14, k0_pay13, k0_pay11, k0_pay10, hidden]

theorem act2 : k0_pay15 (F := Ideal) u g p (ix2 r f) = hidden u g p r f := by
  pointwise [k0_pay15, hidden]

theorem act3 : k0_pay16 (F := Ideal) u g p (ix2 r f) = hidden u g p r f := by
  pointwise [k0_pay16, hidden]

theorem act4 : k0_pay24 (F := Ideal) u (k0_pay23 u g) p (ix2 r f) = hidden u g p r f := by
  pointwise [k0_pay24, k0_pay23, hidden]

theorem act5 : k0_pay25 (F := Ideal) u g p (ix2 r f) = hidden u g p r f := by
  pointwise [k0_pay25, hidden]

theorem act6 : k0_pay26 (F := Ideal) u g p (ix2 r f) = hidden u g p r f := by
  pointwise [k0_pay26, hidden]

theorem act7 : k0_pay53 (F := Ideal) u g p (ix2 r f) = hidden u g p r f := by
  pointwise [k0_pay53, hidden]

theorem act8 : k0_pay54 (F := Ideal) u g p (ix2 r f) = hidden u g p r f := by
  pointwise [k0_pay54, hidden]

theorem act9 : k0_pay58 (F := Ideal) u g p (ix2 r f) = hidden u g p r f := by
  pointwise [k0_pay58, hidden]

theorem act10 : k0_pay61 (F := Ideal) u (k0_pay59 u g) (k0_pay60 p) (ix2 r f) = hidden u g p r f := by
  pointwise [k0_pay61, k0_pay59, k0_pay60, hidden]

end Act

section Out

variable (a : Vec Ideal S256x2816 .bf16) (wd : Vec Ideal S2816x1024 .bf16) (x : Vec Ideal S1x256x1024 .f32) (r : Fin 256) (n : Fin 1024)

/-- One row of a half block's stream. -/
def outRow (j : Fin 1024) : EReal := x (ix3 0 r j) + Ideal.ofBits .f32 0x3F000000#32 * ∑ f : Fin 2816, a (ix2 r f) * wd (ix2 f j)

theorem out_top : k0_pay63 (F := Ideal) a wd x (ix3 0 r n) = outRow a wd x r n := by
  pointwise [k0_pay63, k0_pay62, outRow]

theorem out_bottom : k0_pay67 (F := Ideal) a wd x (ix3 0 r n) = outRow a wd x r n := by
  pointwise [k0_pay67, k0_pay66, outRow]

end Out

end Cert.FrontIdeal.Pay

end
-- ==== Proof.FrontIn.lean ====
/- The call `front`: the input blocks of its first feed-forward half, over the argument arrays. -/
module

public import proofs.«01_k».proof.Proof.FrontPay
public import proofs.«01_k».proof.Proof.Gen.FrontIdeal.Frame
public import Idealize.ShloMosaic.Lib.Pipeline.ValueKit

@[expose] public section

set_option maxRecDepth 16384

noncomputable section

namespace Cert.FrontIdeal.Rows

open Idealize.ShloMosaic Idealize.ShloMosaic.TcCoe Idealize.ShloMosaic.Pipeline Cert.FrontIdeal Cert.FrontIdeal.Gen Cert.BackSpec

variable (m : (ℓ : Loc nD τ sig) → Buf (Elt Ideal) ℓ) (c : Dev nD)

/-- Where the blocks lie at each point: the stream's, in and out, at the point's 512 tokens (the last point has none of its own and repeats the
    one before), the weights' whole. -/
theorem idx : ∀ t : Fin cfg0.N,
    win0_0.index t = ![min t.val 63 / 4, min t.val 63 % 4, 0] ∧ win0_2.index t = ![0, 0] ∧ win0_3.index t = ![0, 0] ∧ win0_4.index t = ![0, 0]
    ∧ win0_5.index t = ![0, 0] ∧ win0_18.index t = ![min t.val 63 / 4, min t.val 63 % 4, 0] :=
  (by decide +kernel : ∀ t : Fin grid0.N, _)

variable (t : Fin cfg0.N) (b : Fin 16) (s : Fin 2048) (r : Fin 512)

theorem in0 (hb : b.val = min t.val 63 / 4) (hs : s.val = min t.val 63 % 4 * 512 + r.val) (n : Fin 1024) :
    iblk m c 0 t (ix3 0 r n) = m ((c : Thread nD τ).loc main_arg0) (ix3 b s n) := by
  have e : iblk m c 0 t (ix3 0 r n) = V m c main_arg0 (ix3 b s n) := by
    blk_ext [iblk, idx t]
  rw [e, V_main_arg0]

theorem in2 (n : Fin 1024) : iblk m c 2 t (ix2 0 n) = m ((c : Thread nD τ).loc main_arg2) (ix2 0 n) := by
  have e : iblk m c 2 t (ix2 0 n) = V m c main_v5 (ix2 0 n) := by
    blk_ext [iblk, idx t]
  rw [e]
  simp only [V, hostOps0, hostOps0_1, hostOps0_2, hostOps0_3, hostOps0_4, hostOps0_5, hostOps0_6, List.flatten_cons, List.flatten_nil, List.append_nil, List.cons_append, List.nil_append]
  entry_read
  pointwise

theorem in3 (k : Fin 1024) (n : Fin 2816) : iblk m c 3 t (ix2 k n) = m ((c : Thread nD τ).loc main_arg3) (ix3 0 k n) := by
  have e : iblk m c 3 t (ix2 k n) = V m c main_v7 (ix2 k n) := by
    blk_ext [iblk, idx t]
  rw [e]
  simp only [V, hostOps0, hostOps0_1, hostOps0_2, hostOps0_3, hostOps0_4, hostOps0_5, hostOps0_6, List.flatten_cons, List.flatten_nil, List.append_nil, List.cons_append, List.nil_append]
  entry_read
  pointwise

theorem in4 (k : Fin 1024) (n : Fin 2816) : iblk m c 4 t (ix2 k n) = m ((c : Thread nD τ).loc main_arg4) (ix3 0 k n) := by
  have e : iblk m c 4 t (ix2 k n) = V m c main_v9 (ix2 k n) := by
    blk_ext [iblk, idx t]
  rw [e]
  simp only [V, hostOps0, hostOps0_1, hostOps0_2, hostOps0_3, hostOps0_4, hostOps0_5, hostOps0_6, List.flatten_cons, List.flatten_nil, List.append_nil, List.cons_append, List.nil_append]
  entry_read
  pointwise

theorem in5 (k : Fin 2816) (n : Fin 1024) : iblk m c 5 t (ix2 k n) = m ((c : Thread nD τ).loc main_arg5) (ix3 0 k n) := by
  have e : iblk m c 5 t (ix2 k n) = V m c main_v11 (ix2 k n) := by
    blk_ext [iblk, idx t]
  rw [e]
  simp only [V, hostOps0, hostOps0_1, hostOps0_2, hostOps0_3, hostOps0_4, hostOps0_5, hostOps0_6, List.flatten_cons, List.flatten_nil, List.append_nil, List.cons_append, List.nil_append]
  entry_read
  pointwise

end Cert.FrontIdeal.Rows

end
-- ==== Proof.FrontFirst.lean ====
/- The call `front`: the body at the first point. -/
module

public import proofs.«01_k».proof.Proof.Gen.FrontIdeal.Frame
public import proofs.«01_k».proof.Proof.Gen.FrontIdeal.Skeleton

@[expose] public section

set_option maxRecDepth 16384

noncomputable section

namespace Cert.FrontIdeal.Run

open Idealize.ShloMosaic Idealize.ShloMosaic.TcCoe Idealize.ShloMosaic.Tactic Cert.FrontIdeal Cert.FrontIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The first point: what the body stores into the stream's block, found by running it. -/
def first (c : Dev nD) (i : grid0.Coords) (arg1 : Memref sig .tc .vmem S1x512x1024 .f32) (harg1 : arg1.IsWhole) (arg2 : Memref sig .tc .vmem S3x512x128 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1728 .bf16) (harg8 : arg8.IsWhole) (arg9 : Memref sig .tc .vmem S1x384 .f32) (harg9 : arg9.IsWhole) (arg10 : Memref sig .tc .vmem S384x1024 .bf16) (harg10 : arg10.IsWhole) (arg11 : Memref sig .tc .vmem S1x256 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S16x2816 .f32) (harg16 : arg16.IsWhole) (arg17 : Memref sig .tc .vmem S16x2816 .f32) (harg17 : arg17.IsWhole) (arg18 : Memref sig .tc .vmem S64x1024 .f32) (harg18 : arg18.IsWhole) (arg19 : Memref sig .tc .vmem S1x512x1024 .bf16) (harg19 : arg19.IsWhole) (arg20 : Memref sig .tc .vmem S1x4x512x256 .bf16) (harg20 : arg20.IsWhole) (arg21 : Memref sig .tc .vmem S1x4x512x256 .bf16) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x512 .bf16) (harg24 : arg24.IsWhole) (arg25 : Memref sig .tc .vmem S16x2816 .bf16) (harg25 : arg25.IsWhole) (arg26 : Memref sig .tc .vmem S16x2816 .bf16) (harg26 : arg26.IsWhole) (arg27 : Memref sig .tc .vmem S64x1024 .bf16) (harg27 : arg27.IsWhole) (arg28 : Memref sig .tc .vmem S512x2816 .bf16) (harg28 : arg28.IsWhole) (arg29 : Memref sig .tc .vmem S512x1024 .bf16) (harg29 : arg29.IsWhole)
    (hc0 : (Scalar.cmpi .ne (Scalar.extui (Scalar.cmpi .eq (BitVec.ofNat 32 (i 0).val) 0#32)) 0#32) = 1#1) (hc1 : k0_cond2 i = 1#1) (hc2 : ¬k0_cond3 i = 1#1)
    (x0 : Vec F S1x512x1024 .f32) (x1 : Vec F S3x512x128 .f32) (x2 : Vec F S1x1024 .f32) (x3 : Vec F S1024x2816 .bf16) (x4 : Vec F S1024x2816 .bf16) (x5 : Vec F S2816x1024 .bf16) (x6 : Vec F S1x1024 .f32) (x7 : Vec F S1024x1728 .bf16) (x8 : Vec F S1x384 .f32) (x9 : Vec F S384x1024 .bf16) (x10 : Vec F S1x256 .f32) (x11 : Vec F S256x512 .bf16) (x12 : Vec F S256x512 .bf16) (x13 : Vec F S1x256 .f32) (x14 : Vec F S1x256 .f32) (x15 : Vec F S16x2816 .f32) (x16 : Vec F S16x2816 .f32) (x17 : Vec F S64x1024 .f32) :
    { L : List (View.Piece (Elt F) S1x512x1024 .bf16) //
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
        ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    have q0 := harg1.eq_unread hf0; subst q0; have q1 := harg2.eq_unread hf1; subst q1; have q2 := harg3.eq_unread hf2; subst q2; have q3 := harg4.eq_unread hf3; subst q3; have q4 := harg5.eq_unread hf4; subst q4; have q5 := harg6.eq_unread hf5; subst q5; have q6 := harg7.eq_unread hf6; subst q6; have q7 := harg8.eq_unread hf7; subst q7; have q8 := harg9.eq_unread hf8; subst q8; have q9 := harg10.eq_unread hf9; subst q9; have q10 := harg11.eq_unread hf10; subst q10; have q11 := harg12.eq_unread hf11; subst q11; have q12 := harg13.eq_unread hf12; subst q12; have q13 := harg14.eq_unread hf13; subst q13; have q14 := harg15.eq_unread hf14; subst q14; have q15 := harg16.eq_unread hf15; subst q15; have q16 := harg17.eq_unread hf16; subst q16; have q17 := harg18.eq_unread hf17; subst q17
    sl_exec (disch := first | sl_exact hc0 | sl_exact hc1 | sl_exact hc2)
    sl_step
    iapply Hk
    isplitl [H0]; · iexists _; isplitr; (· ipureintro; exact harg1.read_unread _); iexact H0
    isplitl [H1]; · iexists _; isplitr; (· ipureintro; exact harg2.read_unread _); iexact H1
    isplitl [H2]; · iexists _; isplitr; (· ipureintro; exact harg3.read_unread _); iexact H2
    isplitl [H3]; · iexists _; isplitr; (· ipureintro; exact harg4.read_unread _); iexact H3
    isplitl [H4]; · iexists _; isplitr; (· ipureintro; exact harg5.read_unread _); iexact H4
    isplitl [H5]; · iexists _; isplitr; (· ipureintro; exact harg6.read_unread _); iexact H5
    isplitl [H6]; · iexists _; isplitr; (· ipureintro; exact harg7.read_unread _); iexact H6
    isplitl [H7]; · iexists _; isplitr; (· ipureintro; exact harg8.read_unread _); iexact H7
    isplitl [H8]; · iexists _; isplitr; (· ipureintro; exact harg9.read_unread _); iexact H8
    isplitl [H9]; · iexists _; isplitr; (· ipureintro; exact harg10.read_unread _); iexact H9
    isplitl [H10]; · iexists _; isplitr; (· ipureintro; exact harg11.read_unread _); iexact H10
    isplitl [H11]; · iexists _; isplitr; (· ipureintro; exact harg12.read_unread _); iexact H11
    isplitl [H12]; · iexists _; isplitr; (· ipureintro; exact harg13.read_unread _); iexact H12
    isplitl [H13]; · iexists _; isplitr; (· ipureintro; exact harg14.read_unread _); iexact H13
    isplitl [H14]; · iexists _; isplitr; (· ipureintro; exact harg15.read_unread _); iexact H14
    isplitl [H15]; · iexists _; isplitr; (· ipureintro; exact harg16.read_unread _); iexact H15
    isplitl [H16]; · iexists _; isplitr; (· ipureintro; exact harg17.read_unread _); iexact H16
    isplitl [H17]; · iexists _; isplitr; (· ipureintro; exact harg18.read_unread _); iexact H17
    isplitl [H18]; · iexists _; iexact H18
    isplitl [H19]; · iexists _; iexists _; isplitr; swap; (· iexact H19); ipureintro; rfl
    isplitl [H20]; · iexists _; iexists _; isplitr; swap; (· iexact H20); ipureintro; rfl
    isplitl [H21]; · iexists _; iexists _; isplitr; swap; (· iexact H21); ipureintro; rfl
    isplitl [H22]; · iexists _; iexists _; isplitr; swap; (· iexact H22); ipureintro; rfl
    isplitl [H23]; · iexists _; iexists _; isplitr; swap; (· iexact H23); ipureintro; rfl
    isplitl [H24]; · iexists _; iexists _; isplitr; swap; (· iexact H24); ipureintro; rfl
    isplitl [H25]; · iexists _; iexists _; isplitr; swap; (· iexact H25); ipureintro; rfl
    isplitl [H26]; · iexists _; iexists _; isplitr; swap; (· iexact H26); ipureintro; rfl
    isplitl [H27]; · iexists _; iexists _; isplitr; swap; (· iexact H27); ipureintro; rfl
    iexists _; iexists _; isplitr; swap; (· iexact H28); ipureintro; rfl

end Cert.FrontIdeal.Run

end
-- ==== Proof.FrontLater.lean ====
/- The call `front`: the body at a point after the first and before the last. -/
module

public import proofs.«01_k».proof.Proof.Gen.FrontIdeal.Frame
public import proofs.«01_k».proof.Proof.Gen.FrontIdeal.Skeleton

@[expose] public section

set_option maxRecDepth 16384

noncomputable section

namespace Cert.FrontIdeal.Run

open Idealize.ShloMosaic Idealize.ShloMosaic.TcCoe Idealize.ShloMosaic.Tactic Cert.FrontIdeal Cert.FrontIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A point after the first and before the last: what the body stores into the stream's block, found by running it. -/
def later (c : Dev nD) (i : grid0.Coords) (arg1 : Memref sig .tc .vmem S1x512x1024 .f32) (harg1 : arg1.IsWhole) (arg2 : Memref sig .tc .vmem S3x512x128 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1728 .bf16) (harg8 : arg8.IsWhole) (arg9 : Memref sig .tc .vmem S1x384 .f32) (harg9 : arg9.IsWhole) (arg10 : Memref sig .tc .vmem S384x1024 .bf16) (harg10 : arg10.IsWhole) (arg11 : Memref sig .tc .vmem S1x256 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S16x2816 .f32) (harg16 : arg16.IsWhole) (arg17 : Memref sig .tc .vmem S16x2816 .f32) (harg17 : arg17.IsWhole) (arg18 : Memref sig .tc .vmem S64x1024 .f32) (harg18 : arg18.IsWhole) (arg19 : Memref sig .tc .vmem S1x512x1024 .bf16) (harg19 : arg19.IsWhole) (arg20 : Memref sig .tc .vmem S1x4x512x256 .bf16) (harg20 : arg20.IsWhole) (arg21 : Memref sig .tc .vmem S1x4x512x256 .bf16) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x512 .bf16) (harg24 : arg24.IsWhole) (arg25 : Memref sig .tc .vmem S16x2816 .bf16) (harg25 : arg25.IsWhole) (arg26 : Memref sig .tc .vmem S16x2816 .bf16) (harg26 : arg26.IsWhole) (arg27 : Memref sig .tc .vmem S64x1024 .bf16) (harg27 : arg27.IsWhole) (arg28 : Memref sig .tc .vmem S512x2816 .bf16) (harg28 : arg28.IsWhole) (arg29 : Memref sig .tc .vmem S512x1024 .bf16) (harg29 : arg29.IsWhole)
    (hc0 : ¬(Scalar.cmpi .ne (Scalar.extui (Scalar.cmpi .eq (BitVec.ofNat 32 (i 0).val) 0#32)) 0#32) = 1#1) (hc1 : k0_cond2 i = 1#1) (hc2 : ¬k0_cond3 i = 1#1)
    (x0 : Vec F S1x512x1024 .f32) (x1 : Vec F S3x512x128 .f32) (x2 : Vec F S1x1024 .f32) (x3 : Vec F S1024x2816 .bf16) (x4 : Vec F S1024x2816 .bf16) (x5 : Vec F S2816x1024 .bf16) (x6 : Vec F S1x1024 .f32) (x7 : Vec F S1024x1728 .bf16) (x8 : Vec F S1x384 .f32) (x9 : Vec F S384x1024 .bf16) (x10 : Vec F S1x256 .f32) (x11 : Vec F S256x512 .bf16) (x12 : Vec F S256x512 .bf16) (x13 : Vec F S1x256 .f32) (x14 : Vec F S1x256 .f32) (x15 : Vec F S16x2816 .f32) (x16 : Vec F S16x2816 .f32) (x17 : Vec F S64x1024 .f32) :
    { L : List (View.Piece (Elt F) S1x512x1024 .bf16) //
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
        ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, fun E K => ?run⟩
  case run =>
    simp only [cc0_front_eq_skeleton]; unfold cc0_front_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    have q0 := harg1.eq_unread hf0; subst q0; have q1 := harg2.eq_unread hf1; subst q1; have q2 := harg3.eq_unread hf2; subst q2; have q3 := harg4.eq_unread hf3; subst q3; have q4 := harg5.eq_unread hf4; subst q4; have q5 := harg6.eq_unread hf5; subst q5; have q6 := harg7.eq_unread hf6; subst q6; have q7 := harg8.eq_unread hf7; subst q7; have q8 := harg9.eq_unread hf8; subst q8; have q9 := harg10.eq_unread hf9; subst q9; have q10 := harg11.eq_unread hf10; subst q10; have q11 := harg12.eq_unread hf11; subst q11; have q12 := harg13.eq_unread hf12; subst q12; have q13 := harg14.eq_unread hf13; subst q13; have q14 := harg15.eq_unread hf14; subst q14; have q15 := harg16.eq_unread hf15; subst q15; have q16 := harg17.eq_unread hf16; subst q16; have q17 := harg18.eq_unread hf17; subst q17
    sl_exec (disch := first | sl_exact hc0 | sl_exact hc1 | sl_exact hc2)
    sl_step
    iapply Hk
    isplitl [H0]; · iexists _; isplitr; (· ipureintro; exact harg1.read_unread _); iexact H0
    isplitl [H1]; · iexists _; isplitr; (· ipureintro; exact harg2.read_unread _); iexact H1
    isplitl [H2]; · iexists _; isplitr; (· ipureintro; exact harg3.read_unread _); iexact H2
    isplitl [H3]; · iexists _; isplitr; (· ipureintro; exact harg4.read_unread _); iexact H3
    isplitl [H4]; · iexists _; isplitr; (· ipureintro; exact harg5.read_unread _); iexact H4
    isplitl [H5]; · iexists _; isplitr; (· ipureintro; exact harg6.read_unread _); iexact H5
    isplitl [H6]; · iexists _; isplitr; (· ipureintro; exact harg7.read_unread _); iexact H6
    isplitl [H7]; · iexists _; isplitr; (· ipureintro; exact harg8.read_unread _); iexact H7
    isplitl [H8]; · iexists _; isplitr; (· ipureintro; exact harg9.read_unread _); iexact H8
    isplitl [H9]; · iexists _; isplitr; (· ipureintro; exact harg10.read_unread _); iexact H9
    isplitl [H10]; · iexists _; isplitr; (· ipureintro; exact harg11.read_unread _); iexact H10
    isplitl [H11]; · iexists _; isplitr; (· ipureintro; exact harg12.read_unread _); iexact H11
    isplitl [H12]; · iexists _; isplitr; (· ipureintro; exact harg13.read_unread _); iexact H12
    isplitl [H13]; · iexists _; isplitr; (· ipureintro; exact harg14.read_unread _); iexact H13
    isplitl [H14]; · iexists _; isplitr; (· ipureintro; exact harg15.read_unread _); iexact H14
    isplitl [H15]; · iexists _; isplitr; (· ipureintro; exact harg16.read_unread _); iexact H15
    isplitl [H16]; · iexists _; isplitr; (· ipureintro; exact harg17.read_unread _); iexact H16
    isplitl [H17]; · iexists _; isplitr; (· ipureintro; exact harg18.read_unread _); iexact H17
    isplitl [H18]; · iexists _; iexact H18
    isplitl [H19]; · iexists _; iexists _; isplitr; swap; (· iexact H19); ipureintro; rfl
    isplitl [H20]; · iexists _; iexists _; isplitr; swap; (· iexact H20); ipureintro; rfl
    isplitl [H21]; · iexists _; iexists _; isplitr; swap; (· iexact H21); ipureintro; rfl
    isplitl [H22]; · iexists _; iexists _; isplitr; swap; (· iexact H22); ipureintro; rfl
    isplitl [H23]; · iexists _; iexists _; isplitr; swap; (· iexact H23); ipureintro; rfl
    isplitl [H24]; · iexists _; iexists _; isplitr; swap; (· iexact H24); ipureintro; rfl
    isplitl [H25]; · iexists _; iexists _; isplitr; swap; (· iexact H25); ipureintro; rfl
    isplitl [H26]; · iexists _; iexists _; isplitr; swap; (· iexact H26); ipureintro; rfl
    isplitl [H27]; · iexists _; iexists _; isplitr; swap; (· iexact H27); ipureintro; rfl
    iexists _; iexists _; isplitr; swap; (· iexact H28); ipureintro; rfl

end Cert.FrontIdeal.Run

end
-- ==== Proof.FrontLast.lean ====
/- The call `front`: the body at the last point, which leaves the stream's block alone. -/
module

public import proofs.«01_k».proof.Proof.Gen.FrontIdeal.Frame
public import proofs.«01_k».proof.Proof.Gen.FrontIdeal.Skeleton

@[expose] public section

set_option maxRecDepth 16384

noncomputable section

namespace Cert.FrontIdeal.Run

open Idealize.ShloMosaic Idealize.ShloMosaic.TcCoe Idealize.ShloMosaic.Tactic Cert.FrontIdeal Cert.FrontIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The last point: the body runs, and does not touch the stream's block. -/
theorem last (c : Dev nD) (i : grid0.Coords) (arg1 : Memref sig .tc .vmem S1x512x1024 .f32) (harg1 : arg1.IsWhole) (arg2 : Memref sig .tc .vmem S3x512x128 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1024x1728 .bf16) (harg8 : arg8.IsWhole) (arg9 : Memref sig .tc .vmem S1x384 .f32) (harg9 : arg9.IsWhole) (arg10 : Memref sig .tc .vmem S384x1024 .bf16) (harg10 : arg10.IsWhole) (arg11 : Memref sig .tc .vmem S1x256 .f32) (harg11 : arg11.IsWhole) (arg12 : Memref sig .tc .vmem S256x512 .bf16) (harg12 : arg12.IsWhole) (arg13 : Memref sig .tc .vmem S256x512 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S16x2816 .f32) (harg16 : arg16.IsWhole) (arg17 : Memref sig .tc .vmem S16x2816 .f32) (harg17 : arg17.IsWhole) (arg18 : Memref sig .tc .vmem S64x1024 .f32) (harg18 : arg18.IsWhole) (arg19 : Memref sig .tc .vmem S1x512x1024 .bf16) (harg19 : arg19.IsWhole) (arg20 : Memref sig .tc .vmem S1x4x512x256 .bf16) (harg20 : arg20.IsWhole) (arg21 : Memref sig .tc .vmem S1x4x512x256 .bf16) (harg21 : arg21.IsWhole) (arg22 : Memref sig .tc .vmem S1x512x512 .bf16) (harg22 : arg22.IsWhole) (arg23 : Memref sig .tc .vmem S1x512x512 .bf16) (harg23 : arg23.IsWhole) (arg24 : Memref sig .tc .vmem S1x512x512 .bf16) (harg24 : arg24.IsWhole) (arg25 : Memref sig .tc .vmem S16x2816 .bf16) (harg25 : arg25.IsWhole) (arg26 : Memref sig .tc .vmem S16x2816 .bf16) (harg26 : arg26.IsWhole) (arg27 : Memref sig .tc .vmem S64x1024 .bf16) (harg27 : arg27.IsWhole) (arg28 : Memref sig .tc .vmem S512x2816 .bf16) (harg28 : arg28.IsWhole) (arg29 : Memref sig .tc .vmem S512x1024 .bf16) (harg29 : arg29.IsWhole)
    (hc0 : ¬(Scalar.cmpi .ne (Scalar.extui (Scalar.cmpi .eq (BitVec.ofNat 32 (i 0).val) 0#32)) 0#32) = 1#1) (hc1 : ¬k0_cond2 i = 1#1) (hc2 : k0_cond3 i = 1#1)
    (x0 : Vec F S1x512x1024 .f32) (x1 : Vec F S3x512x128 .f32) (x2 : Vec F S1x1024 .f32) (x3 : Vec F S1024x2816 .bf16) (x4 : Vec F S1024x2816 .bf16) (x5 : Vec F S2816x1024 .bf16) (x6 : Vec F S1x1024 .f32) (x7 : Vec F S1024x1728 .bf16) (x8 : Vec F S1x384 .f32) (x9 : Vec F S384x1024 .bf16) (x10 : Vec F S1x256 .f32) (x11 : Vec F S256x512 .bf16) (x12 : Vec F S256x512 .bf16) (x13 : Vec F S1x256 .f32) (x14 : Vec F S1x256 .f32) (x15 : Vec F S16x2816 .f32) (x16 : Vec F S16x2816 .f32) (x17 : Vec F S64x1024 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
        ⊢ wp frame (wpE (defs₀ (F := F)) Variants.none c none) E (cc0_front i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  intro E K
  · skip
    simp only [cc0_front_eq_skeleton]; unfold cc0_front_skel
    simp only [k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    have q0 := harg1.eq_unread hf0; subst q0; have q1 := harg2.eq_unread hf1; subst q1; have q2 := harg3.eq_unread hf2; subst q2; have q3 := harg4.eq_unread hf3; subst q3; have q4 := harg5.eq_unread hf4; subst q4; have q5 := harg6.eq_unread hf5; subst q5; have q6 := harg7.eq_unread hf6; subst q6; have q7 := harg8.eq_unread hf7; subst q7; have q8 := harg9.eq_unread hf8; subst q8; have q9 := harg10.eq_unread hf9; subst q9; have q10 := harg11.eq_unread hf10; subst q10; have q11 := harg12.eq_unread hf11; subst q11; have q12 := harg13.eq_unread hf12; subst q12; have q13 := harg14.eq_unread hf13; subst q13; have q14 := harg15.eq_unread hf14; subst q14; have q15 := harg16.eq_unread hf15; subst q15; have q16 := harg17.eq_unread hf16; subst q16; have q17 := harg18.eq_unread hf17; subst q17
    sl_exec (disch := first | sl_exact hc0 | sl_exact hc1 | sl_exact hc2)
    sl_step
    iapply Hk
    isplitl [H0]; · iexists _; isplitr; (· ipureintro; exact harg1.read_unread _); iexact H0
    isplitl [H1]; · iexists _; isplitr; (· ipureintro; exact harg2.read_unread _); iexact H1
    isplitl [H2]; · iexists _; isplitr; (· ipureintro; exact harg3.read_unread _); iexact H2
    isplitl [H3]; · iexists _; isplitr; (· ipureintro; exact harg4.read_unread _); iexact H3
    isplitl [H4]; · iexists _; isplitr; (· ipureintro; exact harg5.read_unread _); iexact H4
    isplitl [H5]; · iexists _; isplitr; (· ipureintro; exact harg6.read_unread _); iexact H5
    isplitl [H6]; · iexists _; isplitr; (· ipureintro; exact harg7.read_unread _); iexact H6
    isplitl [H7]; · iexists _; isplitr; (· ipureintro; exact harg8.read_unread _); iexact H7
    isplitl [H8]; · iexists _; isplitr; (· ipureintro; exact harg9.read_unread _); iexact H8
    isplitl [H9]; · iexists _; isplitr; (· ipureintro; exact harg10.read_unread _); iexact H9
    isplitl [H10]; · iexists _; isplitr; (· ipureintro; exact harg11.read_unread _); iexact H10
    isplitl [H11]; · iexists _; isplitr; (· ipureintro; exact harg12.read_unread _); iexact H11
    isplitl [H12]; · iexists _; isplitr; (· ipureintro; exact harg13.read_unread _); iexact H12
    isplitl [H13]; · iexists _; isplitr; (· ipureintro; exact harg14.read_unread _); iexact H13
    isplitl [H14]; · iexists _; isplitr; (· ipureintro; exact harg15.read_unread _); iexact H14
    isplitl [H15]; · iexists _; isplitr; (· ipureintro; exact harg16.read_unread _); iexact H15
    isplitl [H16]; · iexists _; isplitr; (· ipureintro; exact harg17.read_unread _); iexact H16
    isplitl [H17]; · iexists _; isplitr; (· ipureintro; exact harg18.read_unread _); iexact H17
    isplitl [H19]; · iexists _; iexists _; isplitr; swap; (· iexact H19); ipureintro; rfl
    isplitl [H20]; · iexists _; iexists _; isplitr; swap; (· iexact H20); ipureintro; rfl
    isplitl [H21]; · iexists _; iexists _; isplitr; swap; (· iexact H21); ipureintro; rfl
    isplitl [H22]; · iexists _; iexists _; isplitr; swap; (· iexact H22); ipureintro; rfl
    isplitl [H23]; · iexists _; iexists _; isplitr; swap; (· iexact H23); ipureintro; rfl
    isplitl [H24]; · iexists _; iexists _; isplitr; swap; (· iexact H24); ipureintro; rfl
    isplitl [H25]; · iexists _; iexists _; isplitr; swap; (· iexact H25); ipureintro; rfl
    isplitl [H26]; · iexists _; iexists _; isplitr; swap; (· iexact H26); ipureintro; rfl
    isplitl [H27]; · iexists _; iexists _; isplitr; swap; (· iexact H27); ipureintro; rfl
    iexists _; iexists _; isplitr; swap; (· iexact H28); ipureintro; rfl

end Cert.FrontIdeal.Run

end
-- ==== Proof.FrontFrame.lean ====
/- The call `front`: its run over the grid. The block of the residual stream is followed point by point; what the other result blocks
   hold is not. -/
module

public import proofs.«01_k».proof.Proof.FrontFirst
public import proofs.«01_k».proof.Proof.FrontLater
public import proofs.«01_k».proof.Proof.FrontLast
public import Idealize.ShloMosaic.Lib.Pipeline.Cells
public import Idealize.ShloMosaic.Lib.Pipeline.TableIdle

@[expose] public section

set_option maxRecDepth 16384

noncomputable section

namespace Cert.FrontIdeal.Run

open Idealize.ShloMosaic Idealize.ShloMosaic.TcCoe Idealize.ShloMosaic.Tactic Cert.FrontIdeal Cert.FrontIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F]

local notation "𝕄" => MT nD τ sig Unit (Elt F) ℕ (UR sig nD τ) ℕ

/-! ## The three kinds of points -/

theorem at_first : ∀ t : Fin grid0.N, t.val = 0 →
    (Scalar.cmpi .ne (Scalar.extui (Scalar.cmpi .eq (BitVec.ofNat 32 (grid0.coords t 0).val) 0#32)) 0#32) = 1#1 ∧ k0_cond2 (grid0.coords t) = 1#1 ∧ ¬k0_cond3 (grid0.coords t) = 1#1 := by
  decide +kernel

theorem at_later : ∀ t : Fin grid0.N, (0 < t.val ∧ t.val < 64) →
    ¬(Scalar.cmpi .ne (Scalar.extui (Scalar.cmpi .eq (BitVec.ofNat 32 (grid0.coords t 0).val) 0#32)) 0#32) = 1#1 ∧ k0_cond2 (grid0.coords t) = 1#1 ∧ ¬k0_cond3 (grid0.coords t) = 1#1 := by
  decide +kernel

theorem at_last : ∀ t : Fin grid0.N, t.val = 64 →
    ¬(Scalar.cmpi .ne (Scalar.extui (Scalar.cmpi .eq (BitVec.ofNat 32 (grid0.coords t 0).val) 0#32)) 0#32) = 1#1 ∧ ¬k0_cond2 (grid0.coords t) = 1#1 ∧ k0_cond3 (grid0.coords t) = 1#1 := by
  decide +kernel

/-- Every point but the last stores the stream's block; the last one, which finds it as the point before left it, writes it back. -/
theorem live_or_last : ∀ t : Fin grid0.N,
    (t.val < 64 ∧ cfg0.idle 18 (grid0.coords t) = false) ∨ (t.val = 64 ∧ cfg0.idle 18 (grid0.coords t) = true ∧ (cfg0.win 18).flush t = true) := by
  decide +kernel

theorem kept_last : cfg0.fresh 18 64 = false := by
  decide +kernel

/-! ## What each point leaves in the stream's block -/

variable (m : (ℓ : Loc nD τ sig) → Buf (Elt F) ℓ) (ρ : Dev nD → PrngReg)

/-- One staging buffer of the stream, to read what was stored. -/
abbrev VO : View sig .tc .vmem S1x512x1024 .bf16 := (Memref.whole cc0_stg18_0 : Memref sig .tc .vmem S1x512x1024 .bf16).view

/-- The stream's block after the first point, -/
def streamFirst (c : Dev nD) (t : Fin cfg0.N) (h : t.val = 0) : Vec F S1x512x1024 .bf16 :=
  VO.read (Elt F) (VO.writes (Elt F) VO.junk (first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) (Memref.whole cc0_scratch1) (Memref.isWhole_whole _) (at_first t h).1 (at_first t h).2.1 (at_first t h).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).1)

/-- after a later one, -/
def streamLater (c : Dev nD) (t : Fin cfg0.N) (h : 0 < t.val ∧ t.val < 64) : Vec F S1x512x1024 .bf16 :=
  VO.read (Elt F) (VO.writes (Elt F) VO.junk (later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) (Memref.whole cc0_scratch1) (Memref.isWhole_whole _) (at_later t h).1 (at_later t h).2.1 (at_later t h).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).1)

/-- and after any: the last leaves the one before's. -/
def stream (c : Dev nD) (t : Fin cfg0.N) : Vec F S1x512x1024 .bf16 :=
  if h0 : t.val = 0 then streamFirst m c t h0
  else if h1 : t.val < 64 then streamLater m c t ⟨Nat.pos_of_ne_zero h0, h1⟩
  else streamLater m c (⟨63, by decide⟩ : Fin grid0.N) ⟨by decide, by decide⟩

theorem stream_first (c : Dev nD) (t : Fin cfg0.N) (h : t.val = 0) : stream m c t = streamFirst m c t h := dif_pos h

theorem stream_later (c : Dev nD) (t : Fin cfg0.N) (h : 0 < t.val ∧ t.val < 64) : stream m c t = streamLater m c t h :=
  (dif_neg (Nat.pos_iff_ne_zero.mp h.1)).trans (dif_pos h.2)

theorem stream_last (c : Dev nD) (t : Fin cfg0.N) (h : t.val = 64) :
    stream m c t = stream m c (⟨63, by decide⟩ : Fin grid0.N) := by
  rw [stream_later m c (⟨63, by decide⟩ : Fin grid0.N) ⟨by decide, by decide⟩]
  unfold stream
  rw [dif_neg (by omega), dif_neg (by omega)]

theorem cover_first (c : Dev nD) (t : Fin cfg0.N) (h : t.val = 0) (y : S1x512x1024.Idx) :
    ∃ pc ∈ (first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) (Memref.whole cc0_scratch1) (Memref.isWhole_whole _) (at_first t h).1 (at_first t h).2.1 (at_first t h).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).1, y ∈ pc.1.set :=
  View.cover_of_tiledL (first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) (Memref.whole cc0_scratch1) (Memref.isWhole_whole _) (at_first t h).1 (at_first t h).2.1 (at_first t h).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).1 S1x256x1024.size (by sl_kernel_rfl) y

theorem cover_later (c : Dev nD) (t : Fin cfg0.N) (h : 0 < t.val ∧ t.val < 64) (y : S1x512x1024.Idx) :
    ∃ pc ∈ (later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) (Memref.whole cc0_scratch1) (Memref.isWhole_whole _) (at_later t h).1 (at_later t h).2.1 (at_later t h).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).1, y ∈ pc.1.set :=
  View.cover_of_tiledL (later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (Memref.whole cc0_scratch0) (Memref.isWhole_whole _) (Memref.whole cc0_scratch1) (Memref.isWhole_whole _) (at_later t h).1 (at_later t h).2.1 (at_later t h).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).1 S1x256x1024.size (by sl_kernel_rfl) y

/-! ## The proof data -/

/-- The windows whose contents are not followed: every result but the stream. -/
def fgt (w : Fin cfg0.W) : Bool := Nat.ble 19 w.val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => stream m c t
    | ⟨19, _⟩ => Dat.unnamed ⟨19, by decide⟩ t
    | ⟨20, _⟩ => Dat.unnamed ⟨20, by decide⟩ t
    | ⟨21, _⟩ => Dat.unnamed ⟨21, by decide⟩ t
    | ⟨22, _⟩ => Dat.unnamed ⟨22, by decide⟩ t
    | ⟨23, _⟩ => Dat.unnamed ⟨23, by decide⟩ t
    | ⟨24, _⟩ => Dat.unnamed ⟨24, by decide⟩ t
    | ⟨25, _⟩ => Dat.unnamed ⟨25, by decide⟩ t
    | ⟨26, _⟩ => Dat.unnamed ⟨26, by decide⟩ t
    | ⟨_ + 27, h⟩ => (Nat.not_lt.mpr (Nat.le_add_left 27 _) h).elim
  Φ _ := Pipeline.ΦA spec0 c
  q _ := fullShare
  owed _ := 0

theorem A_eq (c : Dev nD) (w : Fin cfg0.W) : (dats m 0 c).A w = V m c (Pipeline.arrRef spec0 w) := by
  dsimp only [dats]

theorem after18 (c : Dev nD) (t : Fin cfg0.N) : (dats m 0 c).after 18 t = stream m c t := by
  dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before12 (c : Dev nD) (t : Fin cfg0.N) (d) : (dats m 0 c).before 12 t d = iblk m c 12 t :=
  before0_12_of m (dats m 0 c) (A_eq m c 12) (fun t => by dsimp only [dats]) t d
theorem before13 (c : Dev nD) (t : Fin cfg0.N) (d) : (dats m 0 c).before 13 t d = iblk m c 13 t :=
  before0_13_of m (dats m 0 c) (A_eq m c 13) (fun t => by dsimp only [dats]) t d
theorem before14 (c : Dev nD) (t : Fin cfg0.N) (d) : (dats m 0 c).before 14 t d = iblk m c 14 t :=
  before0_14_of m (dats m 0 c) (A_eq m c 14) (fun t => by dsimp only [dats]) t d
theorem before15 (c : Dev nD) (t : Fin cfg0.N) (d) : (dats m 0 c).before 15 t d = iblk m c 15 t :=
  before0_15_of m (dats m 0 c) (A_eq m c 15) (fun t => by dsimp only [dats]) t d
theorem before16 (c : Dev nD) (t : Fin cfg0.N) (d) : (dats m 0 c).before 16 t d = iblk m c 16 t :=
  before0_16_of m (dats m 0 c) (A_eq m c 16) (fun t => by dsimp only [dats]) t d
theorem before17 (c : Dev nD) (t : Fin cfg0.N) (d) : (dats m 0 c).before 17 t d = iblk m c 17 t :=
  before0_17_of m (dats m 0 c) (A_eq m c 17) (fun t => by dsimp only [dats]) t d

theorem before18_last (c : Dev nD) (t : Fin cfg0.N) (h : t.val = 64) (d) : (dats m 0 c).before 18 t d = stream m c t := by
  rw [(dats m 0 c).before_out_traj 18 rfl (fun _ _ => rfl) (fun u hu hi _ => ?_) 64 t h d]
  · rw [if_neg (by rw [h, kept_last]; exact Bool.false_ne_true), after18, stream_last m c t h]
    exact congrArg (stream m c) (Fin.ext (show t.val - 1 = 63 by omega))
  · rcases live_or_last u with ⟨_, hl⟩ | ⟨hl, _⟩
    · exact absurd (hi.symm.trans hl) (by decide)
    · rw [after18, after18, stream_last m c u hl]
      exact congrArg (stream m c) (Fin.ext (show 63 = u.val - 1 by omega))

theorem leaves18 (c : Dev nD) (t : Fin cfg0.N) :
    (dats m 0 c).leavesExact 18 t = owns (c : Thread nD τ) (win0_18.stage (cfg0.slots t 18)) fullShare (stream m c t) := by
  rcases live_or_last t with ⟨_, h⟩ | ⟨_, h, h'⟩
  · unfold Dat.leavesExact; rw [h, after18]
  · unfold Dat.leavesExact; rw [h, h', after18]

theorem leaves0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (cfg0.grid.coords t) = false from rfl]; dsimp only [dats]
theorem leaves1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (cfg0.grid.coords t) = false from rfl]; dsimp only [dats]
theorem leaves2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (cfg0.grid.coords t) = false from rfl]; dsimp only [dats]
theorem leaves3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (cfg0.grid.coords t) = false from rfl]; dsimp only [dats]
theorem leaves4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (cfg0.grid.coords t) = false from rfl]; dsimp only [dats]
theorem leaves5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (cfg0.grid.coords t) = false from rfl]; dsimp only [dats]
theorem leaves6 (c : Dev nD) (t : Fin cfg0.N) :
    (dats m 0 c).leavesExact 6 t = owns (c : Thread nD τ) (win0_6.stage (cfg0.slots t 6)) fullShare (iblk m c 6 t) := by
  unfold Dat.leavesExact; rw [show cfg0.idle 6 (cfg0.grid.coords t) = false from rfl]; dsimp only [dats]
theorem leaves7 (c : Dev nD) (t : Fin cfg0.N) :
    (dats m 0 c).leavesExact 7 t = owns (c : Thread nD τ) (win0_7.stage (cfg0.slots t 7)) fullShare (iblk m c 7 t) := by
  unfold Dat.leavesExact; rw [show cfg0.idle 7 (cfg0.grid.coords t) = false from rfl]; dsimp only [dats]
theorem leaves8 (c : Dev nD) (t : Fin cfg0.N) :
    (dats m 0 c).leavesExact 8 t = owns (c : Thread nD τ) (win0_8.stage (cfg0.slots t 8)) fullShare (iblk m c 8 t) := by
  unfold Dat.leavesExact; rw [show cfg0.idle 8 (cfg0.grid.coords t) = false from rfl]; dsimp only [dats]
theorem leaves9 (c : Dev nD) (t : Fin cfg0.N) :
    (dats m 0 c).leavesExact 9 t = owns (c : Thread nD τ) (win0_9.stage (cfg0.slots t 9)) fullShare (iblk m c 9 t) := by
  unfold Dat.leavesExact; rw [show cfg0.idle 9 (cfg0.grid.coords t) = false from rfl]; dsimp only [dats]
theorem leaves10 (c : Dev nD) (t : Fin cfg0.N) :
    (dats m 0 c).leavesExact 10 t = owns (c : Thread nD τ) (win0_10.stage (cfg0.slots t 10)) fullShare (iblk m c 10 t) := by
  unfold Dat.leavesExact; rw [show cfg0.idle 10 (cfg0.grid.coords t) = false from rfl]; dsimp only [dats]
theorem leaves11 (c : Dev nD) (t : Fin cfg0.N) :
    (dats m 0 c).leavesExact 11 t = owns (c : Thread nD τ) (win0_11.stage (cfg0.slots t 11)) fullShare (iblk m c 11 t) := by
  unfold Dat.leavesExact; rw [show cfg0.idle 11 (cfg0.grid.coords t) = false from rfl]; dsimp only [dats]
theorem leaves12 (c : Dev nD) (t : Fin cfg0.N) :
    (dats m 0 c).leavesExact 12 t = owns (c : Thread nD τ) (win0_12.stage (cfg0.slots t 12)) fullShare (iblk m c 12 t) := by
  unfold Dat.leavesExact; rw [show cfg0.idle 12 (cfg0.grid.coords t) = false from rfl]; dsimp only [dats]
theorem leaves13 (c : Dev nD) (t : Fin cfg0.N) :
    (dats m 0 c).leavesExact 13 t = owns (c : Thread nD τ) (win0_13.stage (cfg0.slots t 13)) fullShare (iblk m c 13 t) := by
  unfold Dat.leavesExact; rw [show cfg0.idle 13 (cfg0.grid.coords t) = false from rfl]; dsimp only [dats]
theorem leaves14 (c : Dev nD) (t : Fin cfg0.N) :
    (dats m 0 c).leavesExact 14 t = owns (c : Thread nD τ) (win0_14.stage (cfg0.slots t 14)) fullShare (iblk m c 14 t) := by
  unfold Dat.leavesExact; rw [show cfg0.idle 14 (cfg0.grid.coords t) = false from rfl]; dsimp only [dats]
theorem leaves15 (c : Dev nD) (t : Fin cfg0.N) :
    (dats m 0 c).leavesExact 15 t = owns (c : Thread nD τ) (win0_15.stage (cfg0.slots t 15)) fullShare (iblk m c 15 t) := by
  unfold Dat.leavesExact; rw [show cfg0.idle 15 (cfg0.grid.coords t) = false from rfl]; dsimp only [dats]
theorem leaves16 (c : Dev nD) (t : Fin cfg0.N) :
    (dats m 0 c).leavesExact 16 t = owns (c : Thread nD τ) (win0_16.stage (cfg0.slots t 16)) fullShare (iblk m c 16 t) := by
  unfold Dat.leavesExact; rw [show cfg0.idle 16 (cfg0.grid.coords t) = false from rfl]; dsimp only [dats]
theorem leaves17 (c : Dev nD) (t : Fin cfg0.N) :
    (dats m 0 c).leavesExact 17 t = owns (c : Thread nD τ) (win0_17.stage (cfg0.slots t 17)) fullShare (iblk m c 17 t) := by
  unfold Dat.leavesExact; rw [show cfg0.idle 17 (cfg0.grid.coords t) = false from rfl]; dsimp only [dats]

/-- Between points the scratch memory holds anything. -/
theorem PhiA_eq (c : Dev nD) :
    (Pipeline.ΦA spec0 c : sProp 𝕄)
      = iprop(iprop((∃ d, owns (c : Thread nD τ) (Memref.whole cc0_scratch0 : Memref sig .tc .vmem S512x2816 .bf16) fullShare d)
          ∗ (∃ d, owns (c : Thread nD τ) (Memref.whole cc0_scratch1 : Memref sig .tc .vmem S512x1024 .bf16) fullShare d)) ∗ (∃ r, prngReg c r)) := by
  unfold Pipeline.ΦA; rw [scopedRest0_eq]; simp only [owns_whole]; try rfl

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d))
    ∗ (∃ X, owns (c : Thread nD τ) (win0_19.stage (cfg0.slots t 19)) fullShare X)
    ∗ (∃ X, owns (c : Thread nD τ) (win0_20.stage (cfg0.slots t 20)) fullShare X)
    ∗ (∃ X, owns (c : Thread nD τ) (win0_21.stage (cfg0.slots t 21)) fullShare X)
    ∗ (∃ X, owns (c : Thread nD τ) (win0_22.stage (cfg0.slots t 22)) fullShare X)
    ∗ (∃ X, owns (c : Thread nD τ) (win0_23.stage (cfg0.slots t 23)) fullShare X)
    ∗ (∃ X, owns (c : Thread nD τ) (win0_24.stage (cfg0.slots t 24)) fullShare X)
    ∗ (∃ X, owns (c : Thread nD τ) (win0_25.stage (cfg0.slots t 25)) fullShare X)
    ∗ (∃ X, owns (c : Thread nD τ) (win0_26.stage (cfg0.slots t 26)) fullShare X))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (∃ X, owns (c : Thread nD τ) (win0_19.stage (cfg0.slots t 19)) fullShare X)
    ∗ (∃ X, owns (c : Thread nD τ) (win0_20.stage (cfg0.slots t 20)) fullShare X)
    ∗ (∃ X, owns (c : Thread nD τ) (win0_21.stage (cfg0.slots t 21)) fullShare X)
    ∗ (∃ X, owns (c : Thread nD τ) (win0_22.stage (cfg0.slots t 22)) fullShare X)
    ∗ (∃ X, owns (c : Thread nD τ) (win0_23.stage (cfg0.slots t 23)) fullShare X)
    ∗ (∃ X, owns (c : Thread nD τ) (win0_24.stage (cfg0.slots t 24)) fullShare X)
    ∗ (∃ X, owns (c : Thread nD τ) (win0_25.stage (cfg0.slots t 25)) fullShare X)
    ∗ (∃ X, owns (c : Thread nD τ) (win0_26.stage (cfg0.slots t 26)) fullShare X))

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, leaves0, leaves1, leaves2, leaves3, leaves4, leaves5, leaves6, leaves7, leaves8, leaves9, leaves10, leaves11, leaves12, leaves13, leaves14, leaves15, leaves16, leaves17, leaves18]
  rw [show (dats m 0 c).owesAt () t.succ = (dats m 0 c).owesAt () t.castSucc from rfl, show (dats m 0 c).Φ t.succ = Pipeline.ΦA spec0 c from rfl,
    show (dats m 0 c).Φ t.castSucc = Pipeline.ΦA spec0 c from rfl, PhiA_eq]
  have hN : t.val < 65 := lt_of_lt_of_eq t.isLt (show cfg0.N = 65 from N_0)
  rcases (by omega : t.val = 0 ∨ (0 < t.val ∧ t.val < 64) ∨ t.val = 64) with hp | hp | hp
  · rw [stream_first m c t hp]; unfold streamFirst
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21, H22, H23, H24, H25, H26⟩
    iapply ((first c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (at_first t hp).1 (at_first t hp).2.1 (at_first t hp).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    isplitl [HS1]; · iexact HS1
    iintro ⟨H0, H1, H2, H3, H4, H5, H6, H7, H8, H9, H10, H11, H12, H13, H14, H15, H16, H17, ⟨%e18, H18⟩, H19, H20, H21, H22, H23, H24, H25, H26, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (cover_first m c t hp)
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  · rw [stream_later m c t hp]; unfold streamLater
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21, H22, H23, H24, H25, H26⟩
    iapply ((later c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (at_later t hp).1 (at_later t hp).2.1 (at_later t hp).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    isplitl [HS1]; · iexact HS1
    iintro ⟨H0, H1, H2, H3, H4, H5, H6, H7, H8, H9, H10, H11, H12, H13, H14, H15, H16, H17, ⟨%e18, H18⟩, H19, H20, H21, H22, H23, H24, H25, H26, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (cover_later m c t hp)
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26
  · simp only [before18_last m c t hp]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, H21, H22, H23, H24, H25, H26⟩
    iapply ((last c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (at_last t hp).1 (at_last t hp).2.1 (at_last t hp).2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [HS0]; · iexact HS0
    isplitl [HS1]; · iexact HS1
    iintro ⟨H0, H1, H2, H3, H4, H5, H6, H7, H8, H9, H10, H11, H12, H13, H14, H15, H16, H17, H19, H20, H21, H22, H23, H24, H25, H26, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    iexact H26

theorem row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ fgt := fun t => by
  rw [bigSep_W0, bigSep_W0, row]
  exact triple_restated (sound_body m c t) rfl .rfl fun _ => .rfl

/-! ## The launch -/

set_option backward.isDefEq.respectTransparency.types false in
theorem launch : θ_run defs (onTc (τ := τ) (main (F := F))) (s₀ m ρ)
    (fun r => RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

theorem kept {r : PUnit × MemSt nD τ sig (Elt F)} (h : RDat.FramePost (cfgs 0) (fun c => (dats m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  ⟨(RDat.FramePost.arr_in h c 0 rfl).trans ((A_eq m c 0).trans (V_main_arg0 m c)),
    (RDat.FramePost.arr_in h c 1 rfl).trans ((A_eq m c 1).trans (V_main_arg1 m c)),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c)⟩

/-- The call terminates, with its arguments as launched and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) ∧ r.2.sem = fun _ => 0) :=
  (θ_run defs _ _).mono (fun _ h => ⟨kept m h.1, h.2⟩) (launch m ρ)

/-- The call terminates, with the stream's array at what the points' blocks make of it and its arguments as launched. -/
theorem value : θ_run defs (onTc (τ := τ) (main (F := F))) ⟨m, fun _ => 0, ρ⟩ (fun r => ∀ c : Dev nD,
    r.2.mem ((c.tc : Thread nD τ).loc main_v34_0) = (dats m 0 c).arrAt 18 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(Pipeline.Dat.toRForget_arrAt_iff (dats m 0 c) (fgt := fgt) (w := 18) rfl _ _).mp ((h.1 c).1 18), kept m h.1 c⟩) (launch m ρ)

end Cert.FrontIdeal.Run

end
-- ==== Proof.FrontOut.lean ====
/- The call `front`: what each point leaves in the stream's block, over the argument arrays. -/
module

public import proofs.«01_k».proof.Proof.FrontIn
public import proofs.«01_k».proof.Proof.FrontFrame
public import Idealize.ShloMosaic.Lib.Pipeline.ReadBack

@[expose] public section

set_option maxRecDepth 16384

noncomputable section

namespace Cert.FrontIdeal.Rows

open Idealize.ShloMosaic Idealize.ShloMosaic.TcCoe Idealize.ShloMosaic.Pipeline Cert.FrontIdeal Cert.FrontIdeal.Gen Cert.BackSpec

variable (m : (ℓ : Loc nD τ sig) → Buf (Elt Ideal) ℓ) (c : Dev nD)

/-- One token, normed. -/
def normRow (b : Fin 16) (s : Fin 2048) : Fin 1024 → EReal :=
  rms 0x44800000#32 (fun j => m ((c : Thread nD τ).loc main_arg0) (ix3 b s j)) (fun j => m ((c : Thread nD τ).loc main_arg2) (ix2 0 j))

/-- One token's result. -/
def resultRow (b : Fin 16) (s : Fin 2048) : Fin 1024 → EReal :=
  ffn (fun j => m ((c : Thread nD τ).loc main_arg0) (ix3 b s j)) (normRow m c b s) (fun k f => m ((c : Thread nD τ).loc main_arg3) (ix3 0 k f))
    (fun k f => m ((c : Thread nD τ).loc main_arg4) (ix3 0 k f)) (fun k f => m ((c : Thread nD τ).loc main_arg5) (ix3 0 k f))

theorem outRow_eq (a : Vec Ideal S256x2816 .bf16) (wd : Vec Ideal S2816x1024 .bf16) (x : Vec Ideal S1x256x1024 .f32) (r : Fin 256)
    (X U : Fin 1024 → EReal) (wg wu : Fin 1024 → Fin 2816 → EReal) (w : Fin 2816 → Fin 1024 → EReal) (hX : ∀ j, x (ix3 0 r j) = X j)
    (ha : ∀ f, a (ix2 r f) = act U wg wu f) (hw : ∀ f j, wd (ix2 f j) = w f j) (j : Fin 1024) : Pay.outRow a wd x r j = ffn X U wg wu w j := by
  unfold Pay.outRow ffn
  simp only [hX, ha, hw]

theorem hidden_eq (u : Vec Ideal S512x1024 .bf16) (g p : Vec Ideal S1024x256 .bf16) (r : Fin 512) (f : Fin 256) (U : Fin 1024 → EReal)
    (wg wu : Fin 1024 → Fin 2816 → EReal) (o : Fin 2816) (hu : ∀ k, u (ix2 r k) = U k) (hg : ∀ k, g (ix2 k f) = wg k o) (hp : ∀ k, p (ix2 k f) = wu k o) :
    Pay.hidden u g p r f = act U wg wu o := by
  unfold Pay.hidden act
  simp only [hu, hg, hp]

/-- 256 columns of a matrix, read from column `o` on. -/
theorem cols (X : Vec Ideal S1024x2816 .bf16) (o : ℕ) (inb) (k : Fin 1024) (q : Fin 256) (f : Fin 2816) (hf : f.val = o + q.val) :
    View.ld X (Rect.unit (s := S1024x2816) ![0, o] ![1024, 256] inb) (ix2 k q) = X (ix2 k f) := by
  refine congrArg X (funext fun a => Fin.ext ((Rect.idx_unit_val _ _ _ _ _).trans ?_))
  fin_cases a
  · exact Nat.zero_add _
  · exact hf.symm

variable (t : Fin cfg0.N) (b : Fin 16) (s : Fin 2048) (r : Fin 512)

/-- A block's normed row is its token's. -/
theorem norm_at (hb : b.val = min t.val 63 / 4) (hs : s.val = min t.val 63 % 4 * 512 + r.val) (k : Fin 1024) :
    k0_pay11 (F := Ideal) (k0_pay10 (iblk m c 0 t)) (iblk m c 2 t) (ix2 r k) = normRow m c b s k := by
  refine (Pay.normed (iblk m c 0 t) (iblk m c 2 t) r k).trans ?_
  unfold normRow
  rw [funext fun j => in0 m c t b s r hb hs j, funext fun j => in2 m c t j]

set_option maxHeartbeats 1600000 in
theorem first_at (h : t.val = 0) (hb : b.val = min t.val 63 / 4) (hs : s.val = min t.val 63 % 4 * 512 + r.val) (n : Fin 1024) :
    Run.streamFirst m c t h (ix3 0 r n) = resultRow m c b s n := by
  unfold Run.streamFirst Run.first
  frame_out
  unfold resultRow
  canon_tiles x h
  all_goals
    obtain ⟨a, r', n', rfl⟩ : ∃ (a : Fin 1) (r' : Fin 256) (n' : Fin 1024), x = ix3 a r' n' := ⟨x 0, x 1, x 2, by blk_ext⟩
    obtain rfl : a = 0 := Subsingleton.elim _ _
    obtain rfl : n = n' := Fin.ext h2
  · have hr : r.val = 256 + r'.val := h1
    rw [Pay.out_bottom]
    refine outRow_eq _ _ _ _ _ _ _ _ _ (fun j => ?_) (fun f => ?_) (fun f j => in5 m c t f j) n
    · refine Eq.trans (congrArg (iblk m c 0 t) (?_ : _ = ix3 0 r j)) (in0 m c t b s r hb hs j)
      refine funext fun a => Fin.ext ((Rect.idx_unit_val _ _ _ _ _).trans ?_)
      fin_cases a
      · rfl
      · exact hr.symm
      · exact Nat.zero_add _
    · have e : (Rect.unit (s := S512x2816) ![256, 0] ![256, 2816] inb_S512x2816_S256x2816_256_0).idx (ix2 r' f) = ix2 r f := by
        refine funext fun a => Fin.ext ((Rect.idx_unit_val _ _ _ _ _).trans ?_)
        fin_cases a
        · exact hr.symm
        · exact Nat.zero_add _
      rw [View.readCov_eq_canon']
      refine (congrArg _ e).trans ?_
      canon_tiles y k
      all_goals
        obtain ⟨r₁, q, rfl⟩ : ∃ (r₁ : Fin 512) (q : Fin 256), y = ix2 r₁ q := ⟨y 0, y 1, by blk_ext⟩
        obtain rfl : r = r₁ := Fin.ext k0
        refine Eq.trans (by first | exact Pay.act0 _ _ _ _ _ _ | exact Pay.act1 _ _ _ _ _ _ | exact Pay.act2 _ _ _ _ _ | exact Pay.act3 _ _ _ _ _ | exact Pay.act4 _ _ _ _ _ | exact Pay.act5 _ _ _ _ _ | exact Pay.act6 _ _ _ _ _ | exact Pay.act7 _ _ _ _ _ | exact Pay.act8 _ _ _ _ _ | exact Pay.act9 _ _ _ _ _ | exact Pay.act10 _ _ _ _ _) (hidden_eq _ _ _ r q _ _ _ f (norm_at m c t b s r hb hs)
          (fun k => Eq.trans (cols _ _ _ k q f (by first | exact k1 | exact k1.trans (Nat.zero_add _).symm)) (in3 m c t k f))
          (fun k => Eq.trans (cols _ _ _ k q f (by first | exact k1 | exact k1.trans (Nat.zero_add _).symm)) (in4 m c t k f)))
  · have hr : r.val = r'.val := h1
    rw [Pay.out_top]
    refine outRow_eq _ _ _ _ _ _ _ _ _ (fun j => ?_) (fun f => ?_) (fun f j => in5 m c t f j) n
    · refine Eq.trans (congrArg (iblk m c 0 t) (?_ : _ = ix3 0 r j)) (in0 m c t b s r hb hs j)
      refine funext fun a => Fin.ext ((Rect.idx_unit_val _ _ _ _ _).trans ?_)
      fin_cases a
      · rfl
      · exact (Nat.zero_add _).trans hr.symm
      · exact Nat.zero_add _
    · have e : (Rect.unit (s := S512x2816) ![0, 0] ![256, 2816] inb_S512x2816_S256x2816_0_0).idx (ix2 r' f) = ix2 r f := by
        refine funext fun a => Fin.ext ((Rect.idx_unit_val _ _ _ _ _).trans ?_)
        fin_cases a
        · exact (Nat.zero_add _).trans hr.symm
        · exact Nat.zero_add _
      rw [View.readCov_eq_canon']
      refine (congrArg _ e).trans ?_
      canon_tiles y k
      all_goals
        obtain ⟨r₁, q, rfl⟩ : ∃ (r₁ : Fin 512) (q : Fin 256), y = ix2 r₁ q := ⟨y 0, y 1, by blk_ext⟩
        obtain rfl : r = r₁ := Fin.ext k0
        refine Eq.trans (by first | exact Pay.act0 _ _ _ _ _ _ | exact Pay.act1 _ _ _ _ _ _ | exact Pay.act2 _ _ _ _ _ | exact Pay.act3 _ _ _ _ _ | exact Pay.act4 _ _ _ _ _ | exact Pay.act5 _ _ _ _ _ | exact Pay.act6 _ _ _ _ _ | exact Pay.act7 _ _ _ _ _ | exact Pay.act8 _ _ _ _ _ | exact Pay.act9 _ _ _ _ _ | exact Pay.act10 _ _ _ _ _) (hidden_eq _ _ _ r q _ _ _ f (norm_at m c t b s r hb hs)
          (fun k => Eq.trans (cols _ _ _ k q f (by first | exact k1 | exact k1.trans (Nat.zero_add _).symm)) (in3 m c t k f))
          (fun k => Eq.trans (cols _ _ _ k q f (by first | exact k1 | exact k1.trans (Nat.zero_add _).symm)) (in4 m c t k f)))

set_option maxHeartbeats 1600000 in
theorem later_at (h : 0 < t.val ∧ t.val < 64) (hb : b.val = min t.val 63 / 4) (hs : s.val = min t.val 63 % 4 * 512 + r.val) (n : Fin 1024) :
    Run.streamLater m c t h (ix3 0 r n) = resultRow m c b s n := by
  unfold Run.streamLater Run.later
  frame_out
  unfold resultRow
  canon_tiles x h
  all_goals
    obtain ⟨a, r', n', rfl⟩ : ∃ (a : Fin 1) (r' : Fin 256) (n' : Fin 1024), x = ix3 a r' n' := ⟨x 0, x 1, x 2, by blk_ext⟩
    obtain rfl : a = 0 := Subsingleton.elim _ _
    obtain rfl : n = n' := Fin.ext h2
  · have hr : r.val = 256 + r'.val := h1
    rw [Pay.out_bottom]
    refine outRow_eq _ _ _ _ _ _ _ _ _ (fun j => ?_) (fun f => ?_) (fun f j => in5 m c t f j) n
    · refine Eq.trans (congrArg (iblk m c 0 t) (?_ : _ = ix3 0 r j)) (in0 m c t b s r hb hs j)
      refine funext fun a => Fin.ext ((Rect.idx_unit_val _ _ _ _ _).trans ?_)
      fin_cases a
      · rfl
      · exact hr.symm
      · exact Nat.zero_add _
    · have e : (Rect.unit (s := S512x2816) ![256, 0] ![256, 2816] inb_S512x2816_S256x2816_256_0).idx (ix2 r' f) = ix2 r f := by
        refine funext fun a => Fin.ext ((Rect.idx_unit_val _ _ _ _ _).trans ?_)
        fin_cases a
        · exact hr.symm
        · exact Nat.zero_add _
      rw [View.readCov_eq_canon']
      refine (congrArg _ e).trans ?_
      canon_tiles y k
      all_goals
        obtain ⟨r₁, q, rfl⟩ : ∃ (r₁ : Fin 512) (q : Fin 256), y = ix2 r₁ q := ⟨y 0, y 1, by blk_ext⟩
        obtain rfl : r = r₁ := Fin.ext k0
        refine Eq.trans (by first | exact Pay.act0 _ _ _ _ _ _ | exact Pay.act1 _ _ _ _ _ _ | exact Pay.act2 _ _ _ _ _ | exact Pay.act3 _ _ _ _ _ | exact Pay.act4 _ _ _ _ _ | exact Pay.act5 _ _ _ _ _ | exact Pay.act6 _ _ _ _ _ | exact Pay.act7 _ _ _ _ _ | exact Pay.act8 _ _ _ _ _ | exact Pay.act9 _ _ _ _ _ | exact Pay.act10 _ _ _ _ _) (hidden_eq _ _ _ r q _ _ _ f (norm_at m c t b s r hb hs)
          (fun k => Eq.trans (cols _ _ _ k q f (by first | exact k1 | exact k1.trans (Nat.zero_add _).symm)) (in3 m c t k f))
          (fun k => Eq.trans (cols _ _ _ k q f (by first | exact k1 | exact k1.trans (Nat.zero_add _).symm)) (in4 m c t k f)))
  · have hr : r.val = r'.val := h1
    rw [Pay.out_top]
    refine outRow_eq _ _ _ _ _ _ _ _ _ (fun j => ?_) (fun f => ?_) (fun f j => in5 m c t f j) n
    · refine Eq.trans (congrArg (iblk m c 0 t) (?_ : _ = ix3 0 r j)) (in0 m c t b s r hb hs j)
      refine funext fun a => Fin.ext ((Rect.idx_unit_val _ _ _ _ _).trans ?_)
      fin_cases a
      · rfl
      · exact (Nat.zero_add _).trans hr.symm
      · exact Nat.zero_add _
    · have e : (Rect.unit (s := S512x2816) ![0, 0] ![256, 2816] inb_S512x2816_S256x2816_0_0).idx (ix2 r' f) = ix2 r f := by
        refine funext fun a => Fin.ext ((Rect.idx_unit_val _ _ _ _ _).trans ?_)
        fin_cases a
        · exact (Nat.zero_add _).trans hr.symm
        · exact Nat.zero_add _
      rw [View.readCov_eq_canon']
      refine (congrArg _ e).trans ?_
      canon_tiles y k
      all_goals
        obtain ⟨r₁, q, rfl⟩ : ∃ (r₁ : Fin 512) (q : Fin 256), y = ix2 r₁ q := ⟨y 0, y 1, by blk_ext⟩
        obtain rfl : r = r₁ := Fin.ext k0
        refine Eq.trans (by first | exact Pay.act0 _ _ _ _ _ _ | exact Pay.act1 _ _ _ _ _ _ | exact Pay.act2 _ _ _ _ _ | exact Pay.act3 _ _ _ _ _ | exact Pay.act4 _ _ _ _ _ | exact Pay.act5 _ _ _ _ _ | exact Pay.act6 _ _ _ _ _ | exact Pay.act7 _ _ _ _ _ | exact Pay.act8 _ _ _ _ _ | exact Pay.act9 _ _ _ _ _ | exact Pay.act10 _ _ _ _ _) (hidden_eq _ _ _ r q _ _ _ f (norm_at m c t b s r hb hs)
          (fun k => Eq.trans (cols _ _ _ k q f (by first | exact k1 | exact k1.trans (Nat.zero_add _).symm)) (in3 m c t k f))
          (fun k => Eq.trans (cols _ _ _ k q f (by first | exact k1 | exact k1.trans (Nat.zero_add _).symm)) (in4 m c t k f)))

/-- Whatever the point, it leaves its tokens' results. -/
theorem stream_at (hb : b.val = min t.val 63 / 4) (hs : s.val = min t.val 63 % 4 * 512 + r.val) (n : Fin 1024) :
    Run.stream m c t (ix3 0 r n) = resultRow m c b s n := by
  have hN : t.val < 65 := lt_of_lt_of_eq t.isLt (show cfg0.N = 65 from N_0)
  rcases (by omega : t.val = 0 ∨ (0 < t.val ∧ t.val < 64) ∨ t.val = 64) with h | h | h
  · rw [Run.stream_first m c t h]
    exact first_at m c t b s r h hb hs n
  · rw [Run.stream_later m c t h]
    exact later_at m c t b s r h hb hs n
  · rw [Run.stream_last m c t h, Run.stream_later m c (⟨63, by decide⟩ : Fin grid0.N) ⟨by decide, by decide⟩]
    rw [h] at hb hs
    exact later_at m c (⟨63, by decide⟩ : Fin grid0.N) b s r _ hb hs n

end Cert.FrontIdeal.Rows

end
-- ==== Proof.FrontValue.lean ====
/- The call `front`: what the stream's array holds after the run, over the argument arrays. -/
module

public import proofs.«01_k».proof.Proof.FrontOut

@[expose] public section

set_option maxRecDepth 16384

noncomputable section

namespace Cert.FrontIdeal.Rows

open Idealize.ShloMosaic Idealize.ShloMosaic.TcCoe Idealize.ShloMosaic.Pipeline Cert.FrontIdeal Cert.FrontIdeal.Gen Cert.BackSpec

variable (m : (ℓ : Loc nD τ sig) → Buf (Elt Ideal) ℓ) (c : Dev nD)

/-- What the stream's array ends with. -/
def result : S16x2048x1024.Idx → EReal := fun i => resultRow m c (i 0) (i 1) (i 2)

theorem emb (t : Fin cfg0.N) (b : Fin 16) (s : Fin 2048) (r : Fin 512) (n : Fin 1024) (hb : b.val = min t.val 63 / 4)
    (hs : s.val = min t.val 63 % 4 * 512 + r.val) : (win0_18.blk t).view.emb (ix3 0 r n) = ix3 b s n := by
  blk_ext [idx t]

theorem point (t : Fin cfg0.N) (y : S1x512x1024.Idx) : Run.stream m c t y = result m c ((win0_18.blk t).view.emb y) := by
  obtain ⟨a, r, n, rfl⟩ : ∃ (a : Fin 1) (r : Fin 512) (n : Fin 1024), y = ix3 a r n := ⟨y 0, y 1, y 2, by blk_ext⟩
  obtain rfl : a = 0 := Subsingleton.elim _ _
  rw [emb t ⟨min t.val 63 / 4, by omega⟩ ⟨min t.val 63 % 4 * 512 + r.val, by omega⟩ r n rfl rfl]
  exact stream_at m c t _ _ r rfl rfl n

theorem final : (Run.dats m 0 c).arrAt 18 (cfgs 0).N = result m c := by
  refine (Run.dats m 0 c).arrAt_eq_of_covers 18 _ (by decide +kernel) fun t hf y => ?_
  blk_simp
  rw [Run.after18]
  exact point m c t y

end Cert.FrontIdeal.Rows

end
-- ==== Proof.FrontRef.lean ====
/- The reference of the call `front`: its result, read at an index. -/
module

public import proofs.«01_k».proof.Proof.BackSpec
public import proofs.«01_k».proof.Proof.Gen.FrontReferenceIdeal.Read

@[expose] public section

set_option maxRecDepth 16384

noncomputable section

namespace Cert.FrontReferenceIdeal.Rows

open Idealize.ShloMosaic Cert.FrontReferenceIdeal Cert.FrontReferenceIdeal.Read Cert.BackSpec

variable (x0 : (⟨S16x2048x1024, .f32⟩ : BufTy).Contents (Elt Ideal)) (x2 : (⟨S1x1024, .f32⟩ : BufTy).Contents (Elt Ideal))
  (x3 x4 : (⟨S1x1024x2816, .f32⟩ : BufTy).Contents (Elt Ideal)) (x5 : (⟨S1x2816x1024, .f32⟩ : BufTy).Contents (Elt Ideal))
variable (b : Fin 16) (s : Fin 2048)

/-- One token, normed. -/
def normRow : Fin 1024 → EReal := rms 0x44800000#32 (fun j => x0 (ix3 b s j)) (fun j => x2 (ix2 0 j))

theorem normed (n : Fin 1024) : val_main_v13 (F := Ideal) x0 x2 (ix3 b s n) = normRow x0 x2 b s n := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, normRow, rms]

theorem gate (f : Fin 2816) : val_main_v15 (F := Ideal) x0 x2 x3 (ix3 b s f) = ∑ k, normRow x0 x2 b s k * x3 (ix3 0 k f) := by
  pointwise [val_main_v14, val_main_v15, normed]

theorem hidden (f : Fin 2816) : val_main_v19 (F := Ideal) x0 x2 x3 x4 (ix3 b s f)
    = act (normRow x0 x2 b s) (fun k f => x3 (ix3 0 k f)) (fun k f => x4 (ix3 0 k f)) f := by
  pointwise [val_main_v16, val_main_v17, val_main_v18, val_main_v19, val_main_call0_v0, val_main_call0_v1, val_main_call0_cst, val_main_call0_v2, val_main_call0_v3, val_main_call0_cst_0, val_main_call0_v4, val_main_call0_v5, gate, normed, act, Ideal.logistic]

/-- The reference's result for one token. -/
theorem result (n : Fin 1024) : val_main_v25 (F := Ideal) x0 x2 x3 x4 x5 (ix3 b s n)
    = ffn (fun j => x0 (ix3 b s j)) (normRow x0 x2 b s) (fun k f => x3 (ix3 0 k f)) (fun k f => x4 (ix3 0 k f)) (fun k f => x5 (ix3 0 k f)) n := by
  pointwise [val_main_v20, val_main_v21, val_main_cst_2, val_main_v22, val_main_v23, val_main_v24, val_main_v25, hidden, ffn]

end Cert.FrontReferenceIdeal.Rows

end
-- ==== Proof.FrontClaim.lean ====
/- The call `front` leaves its arguments as launched, and its stream is what its reference computes. -/
module

public import proofs.«01_k».proof.Defs
public import proofs.«01_k».proof.Proof.FrontValue
public import proofs.«01_k».proof.Proof.FrontRef
public import proofs.«01_k».proof.Proof.Gen.Front
public import proofs.«01_k».proof.Proof.Gen.FrontReferenceIdeal.Run

@[expose] public section

set_option maxRecDepth 16384

noncomputable section

namespace Cert.FrontClaim

open Idealize.ShloMosaic Idealize.ShloMosaic.TcCoe Idealize.SL.Sem

/-- Over the bits the program has the same text, so the run is the same. -/
theorem frame_kernel : Cert.quiescent_Front := fun m ρ _ => by
  refine Eq.mp ?_ (Cert.FrontIdeal.Run.frame (F := Bits) m ρ)
  sl_kernel_rfl

theorem frame_ideal : Cert.quiescent_FrontIdeal := fun m ρ _ => Cert.FrontIdeal.Run.frame m ρ

theorem frame_reference : Cert.quiescent_FrontReferenceIdeal := by
  intro m g _
  run_from Cert.FrontReferenceIdeal.Value.run m g
  · exact fun _ => by simp only [and_self]
  funext x
  obtain ⟨_, y | y⟩ := x <;> exact y.elim0

theorem algebraic : Cert.algebraic_FrontIdeal_FrontReferenceIdeal := by
  pair_intro
  · run_from Cert.FrontIdeal.Run.value m g
  · run_from Cert.FrontReferenceIdeal.Value.run m' g'
    refine Eq.trans ?_ (Cert.FrontIdeal.Rows.final m c).symm
    refine (Cert.FrontReferenceIdeal.Read.val_main_v25_eq (F := Ideal) _ _ _ _ _).trans ?_
    funext i
    obtain ⟨b, s, n, rfl⟩ : ∃ (b : Fin 16) (s : Fin 2048) (n : Fin 1024), i = ix3 b s n := ⟨i 0, i 1, i 2, by blk_ext⟩
    exact Cert.FrontReferenceIdeal.Rows.result _ _ _ _ _ b s n

end Cert.FrontClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk
public import proofs.«01_k».proof.Proof.Gen.Back
public import proofs.«01_k».proof.Proof.Gen.Back.Frame
public import proofs.«01_k».proof.Proof.Gen.BackIdeal
public import proofs.«01_k».proof.Proof.Gen.BackIdeal.Frame
public import proofs.«01_k».proof.Proof.Gen.BackIdeal.Value
public import proofs.«01_k».proof.Proof.Gen.BackReferenceIdeal
public import proofs.«01_k».proof.Proof.Gen.BackReferenceIdeal.Run
public import proofs.«01_k».proof.Proof.Gen.BackReferenceIdeal.Read
public import proofs.«01_k».proof.Proof.Gen.Front
public import proofs.«01_k».proof.Proof.Gen.FrontIdeal
public import proofs.«01_k».proof.Proof.Gen.FrontIdeal.Frame
public import proofs.«01_k».proof.Proof.Gen.FrontIdeal.Skeleton
public import proofs.«01_k».proof.Proof.Gen.FrontReferenceIdeal
public import proofs.«01_k».proof.Proof.Gen.FrontReferenceIdeal.Run
public import proofs.«01_k».proof.Proof.Gen.FrontReferenceIdeal.Read
public import proofs.«01_k».proof.Proof.AttnClaim
public import proofs.«01_k».proof.Proof.BackClaim
public import proofs.«01_k».proof.Proof.FrontClaim
public import Idealize.ShloMosaic.Adequacy
public import Idealize.ShloMosaic.Init

@[expose] public section

set_option maxRecDepth 16384

noncomputable section

namespace Cert.Proof

open Idealize.ShloMosaic Idealize.SL.Sem

/-- The attention's reference runs to its end and leaves its arguments as launched. -/
theorem frame_reference : Cert.quiescent_ReferenceIdeal := by
  intro m g _
  run_from Cert.ReferenceIdeal.Value.run m g
  · exact fun _ => by simp only [and_self]
  funext x
  obtain ⟨_, y | y⟩ := x <;> exact y.elim0

/-- … and so does the last call's. -/
theorem frame_back_reference : Cert.quiescent_BackReferenceIdeal := by
  intro m g _
  run_from Cert.BackReferenceIdeal.Value.run m g
  · exact fun _ => by simp only [and_self]
  funext x
  obtain ⟨_, y | y⟩ := x <;> exact y.elim0

/-- The attention call, the layer's last call and the first call's feed-forward half: their frames, their idealization, and their values against their references. -/
theorem claim : Cert.Claim :=
  ⟨Cert.Kernel.Gen.facts, Cert.KernelIdeal.Gen.facts, Cert.ReferenceIdeal.Gen.facts, Cert.Back.Gen.facts,
    Cert.BackIdeal.Gen.facts, Cert.BackReferenceIdeal.Gen.facts, Cert.Front.Gen.facts, Cert.FrontIdeal.Gen.facts,
    Cert.FrontReferenceIdeal.Gen.facts, Cert.Pre_finite_qk.Gen.facts,
    fun m g _ => Cert.Kernel.Gen.frame m g,
    fun m g _ => Cert.KernelIdeal.Gen.frame m g,
    fun m g _ => Cert.KernelIdeal.Gen.frame m g,
    fun m g _ => frame_reference m g trivial,
    fun m g _ => frame_reference m g trivial,
    fun m g _ => Cert.Back.Gen.frame m g,
    fun m g _ => Cert.BackIdeal.Gen.frame m g,
    frame_back_reference,
    Cert.FrontClaim.frame_kernel,
    Cert.FrontClaim.frame_ideal,
    Cert.FrontClaim.frame_reference,
    ⟨IdealRules.named_const.statement Cert.KernelIdeal.κ "mask" .f32 0xF149F2CA#32 ⊥ rfl,
      IdealRules.named_const.statement Cert.KernelIdeal.κ "log2e" .f32 0xBFB8AA3B#32
        ((-((Real.log 2)⁻¹) : ℝ) : EReal) rfl⟩,
    Cert.AttnClaim.algebraic,
    trivial,
    Cert.BackClaim.algebraic,
    trivial,
    Cert.FrontClaim.algebraic⟩

end Cert.Proof

end
